-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S160x2x128 Cert.KernelIdeal.S160x1x128
  ∧ IdealRules.bf16_pair.BufferStatement Cert.KernelIdeal.S176x2x128 Cert.KernelIdeal.S176x1x128
  ∧ IdealRules.bf16_pair.Statement Cert.KernelIdeal.S320x128 Cert.KernelIdeal.S160x128
  ∧ IdealRules.bf16_pair.Statement Cert.KernelIdeal.S160x2x128 Cert.KernelIdeal.S160x1x128
  ∧ IdealRules.bf16_pair.Statement Cert.KernelIdeal.S176x2x128 Cert.KernelIdeal.S176x1x128
  ∧ IdealRules.bf16_pair.SelectZeroStatement Cert.KernelIdeal.S176x128
  ∧ IdealRules.bf16_pair.Statement Cert.KernelIdeal.S352x128 Cert.KernelIdeal.S176x128
  ∧ IdealRules.bf16_pair.Statement Cert.KernelIdeal.S320x1 Cert.KernelIdeal.S160x1

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x524288x320 : Shape := ⟨3, ![2, 524288, 320]⟩
abbrev S2x4096x320 : Shape := ⟨3, ![2, 4096, 320]⟩
abbrev S2x524288x352 : Shape := ⟨3, ![2, 524288, 352]⟩
abbrev S320x352 : Shape := ⟨2, ![320, 352]⟩
abbrev S2x320x524288 : Shape := ⟨3, ![2, 320, 524288]⟩
abbrev S640x524288 : Shape := ⟨2, ![640, 524288]⟩
abbrev S2x320x4096 : Shape := ⟨3, ![2, 320, 4096]⟩
abbrev S640x4096 : Shape := ⟨2, ![640, 4096]⟩
abbrev S2x352x524288 : Shape := ⟨3, ![2, 352, 524288]⟩
abbrev S704x524288 : Shape := ⟨2, ![704, 524288]⟩
abbrev S704x4096 : Shape := ⟨2, ![704, 4096]⟩
abbrev S320x8192 : Shape := ⟨2, ![320, 8192]⟩
abbrev S320x128 : Shape := ⟨2, ![320, 128]⟩
abbrev S352x8192 : Shape := ⟨2, ![352, 8192]⟩
abbrev S352x128 : Shape := ⟨2, ![352, 128]⟩
abbrev S160x128 : Shape := ⟨2, ![160, 128]⟩
abbrev S176x128 : Shape := ⟨2, ![176, 128]⟩
abbrev S176x8192 : Shape := ⟨2, ![176, 8192]⟩
abbrev S352 : Shape := ⟨1, ![352]⟩
abbrev S352x1 : Shape := ⟨2, ![352, 1]⟩
abbrev S160x1 : Shape := ⟨2, ![160, 1]⟩
abbrev S320x1 : Shape := ⟨2, ![320, 1]⟩
abbrev S320x1024 : Shape := ⟨2, ![320, 1024]⟩
abbrev S352x1024 : Shape := ⟨2, ![352, 1024]⟩
abbrev S2x352x4096 : Shape := ⟨3, ![2, 352, 4096]⟩
abbrev S2x4096x352 : Shape := ⟨3, ![2, 4096, 352]⟩

abbrev nBuf : Space → Nat
  | .hbm => 17
  | .vmem => 15
  | .smem => 0
  | _ => 0

abbrev bufTy : (tb : Table) → Fin (tcTables nBuf tb) → BufTy
  | .hbm, ⟨0, _⟩ => ⟨S2x524288x320, .fp8e4m3⟩
  | .hbm, ⟨1, _⟩ => ⟨S2x4096x320, .f32⟩
  | .hbm, ⟨2, _⟩ => ⟨S2x524288x352, .bf16⟩
  | .hbm, ⟨3, _⟩ => ⟨S320x352, .f32⟩
  | .hbm, ⟨4, _⟩ => ⟨S2x320x524288, .fp8e4m3⟩
  | .hbm, ⟨5, _⟩ => ⟨S640x524288, .fp8e4m3⟩
  | .hbm, ⟨6, _⟩ => ⟨S2x320x4096, .f32⟩
  | .hbm, ⟨7, _⟩ => ⟨S640x4096, .f32⟩
  | .hbm, ⟨8, _⟩ => ⟨S2x352x524288, .bf16⟩
  | .hbm, ⟨9, _⟩ => ⟨S704x524288, .bf16⟩
  | .hbm, ⟨10, _⟩ => ⟨S320x352, .f32⟩
  | .hbm, ⟨11, _⟩ => ⟨S704x524288, .fp8e5m2⟩
  | .hbm, ⟨12, _⟩ => ⟨S704x4096, .f32⟩
  | .hbm, ⟨13, _⟩ => ⟨S2x352x524288, .fp8e5m2⟩
  | .hbm, ⟨14, _⟩ => ⟨S2x524288x352, .fp8e5m2⟩
  | .hbm, ⟨15, _⟩ => ⟨S2x352x4096, .f32⟩
  | .hbm, ⟨16, _⟩ => ⟨S2x4096x352, .f32⟩
  | .local _ .vmem, ⟨0, _⟩ => ⟨S320x8192, .fp8e4m3⟩
  | .local _ .vmem, ⟨1, _⟩ => ⟨S320x8192, .fp8e4m3⟩
  | .local _ .vmem, ⟨2, _⟩ => ⟨S320x128, .f32⟩
  | .local _ .vmem, ⟨3, _⟩ => ⟨S320x128, .f32⟩
  | .local _ .vmem, ⟨4, _⟩ => ⟨S352x8192, .bf16⟩
  | .local _ .vmem, ⟨5, _⟩ => ⟨S352x8192, .bf16⟩
  | .local _ .vmem, ⟨6, _⟩ => ⟨S320x352, .f32⟩
  | .local _ .vmem, ⟨7, _⟩ => ⟨S320x352, .f32⟩
  | .local _ .vmem, ⟨8, _⟩ => ⟨S352x8192, .fp8e5m2⟩
  | .local _ .vmem, ⟨9, _⟩ => ⟨S352x8192, .fp8e5m2⟩
  | .local _ .vmem, ⟨10, _⟩ => ⟨S352x128, .f32⟩
  | .local _ .vmem, ⟨11, _⟩ => ⟨S352x128, .f32⟩
  | .local _ .vmem, ⟨12, _⟩ => ⟨S320x352, .f32⟩
  | .local _ .vmem, ⟨13, _⟩ => ⟨S160x128, .i32⟩
  | .local _ .vmem, ⟨14, _⟩ => ⟨S176x128, .i32⟩
  | _, _ => ⟨S2x524288x320, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨2, ![2, 64], ![false, false]⟩

@[reducible] def k0_t1_loop : Scf.Loop 32 :=
  let c0_i32_4 : BitVec 32 := 0#32
  let c8_i32 : BitVec 32 := 8#32
  let v10 : BitVec 32 := Scalar.addi c0_i32_4 c8_i32
  let c1_i32 : BitVec 32 := 1#32
  ⟨c0_i32_4, v10, c1_i32⟩
def k0_mult1 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c1024_i32 : BitVec 32 := 1024#32
  let v18 : BitVec 32 := Scalar.muli arg12 c1024_i32
  v18
def k0_off1 (k0_t1 : Fin k0_t1_loop.trips) (c0_i32_15 : BitVec 32) : Fin 2 → Nat :=
  let c0_i32_4 : BitVec 32 := 0#32
  let c1_i32 : BitVec 32 := 1#32
  let arg12 : BitVec 32 := Scf.iv c0_i32_4 c1_i32 k0_t1
  let c1024_i32 : BitVec 32 := 1024#32
  let v18 : BitVec 32 := Scalar.muli arg12 c1024_i32
  let v19 : BitVec 32 := v18
  let v29 : BitVec 32 := Scalar.addi v19 c0_i32_15
  let v31 : Index := Scalar.indexCast v29
  ![0, v31.toNat]
def k0_off2 (k0_t1 : Fin k0_t1_loop.trips) (c0_i32_15 : BitVec 32) : Fin 2 → Nat :=
  let c0_29 : Index := 0#32
  let c0_i32_4 : BitVec 32 := 0#32
  let c1_i32 : BitVec 32 := 1#32
  let arg12 : BitVec 32 := Scf.iv c0_i32_4 c1_i32 k0_t1
  let c1024_i32 : BitVec 32 := 1024#32
  let v18 : BitVec 32 := Scalar.muli arg12 c1024_i32
  let v19 : BitVec 32 := v18
  let v29 : BitVec 32 := Scalar.addi v19 c0_i32_15
  let v116 : Index := Scalar.indexCast v29
  ![0, v116.toNat]
def k0_off3 (k0_t1 : Fin k0_t1_loop.trips) (c0_i32_15 : BitVec 32) : Fin 2 → Nat :=
  let c0_31 : Index := 0#32
  let c0_i32_4 : BitVec 32 := 0#32
  let c1_i32 : BitVec 32 := 1#32
  let arg12 : BitVec 32 := Scf.iv c0_i32_4 c1_i32 k0_t1
  let c1024_i32 : BitVec 32 := 1024#32
  let v18 : BitVec 32 := Scalar.muli arg12 c1024_i32
  let v19 : BitVec 32 := v18
  let v29 : BitVec 32 := Scalar.addi v19 c0_i32_15
  let v129 : Index := Scalar.indexCast v29
  ![0, v129.toNat]
def k0_cond3 (i : grid0.Coords) : BitVec 1 :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c127_i32 : BitVec 32 := 127#32
  let v15 : BitVec 1 := Scalar.cmpi .eq v1 c127_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

abbrev stage0_0 : Fin 2 → Memref sig .tc .vmem S320x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S320x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S320x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S320x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S352x8192 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
abbrev S160x2x128 : Shape := ⟨3, ![160, 2, 128]⟩
abbrev S160x1x128 : Shape := ⟨3, ![160, 1, 128]⟩
abbrev S176x2x128 : Shape := ⟨3, ![176, 2, 128]⟩
abbrev S176x1x128 : Shape := ⟨3, ![176, 1, 128]⟩
  | .local _ .vmem, ⟨13, _⟩ => ⟨S160x2x128, .bf16⟩
  | .local _ .vmem, ⟨14, _⟩ => ⟨S176x2x128, .bf16⟩
variable {F : FTy → Type} [FloatOps F]
-- ==== ReferenceIdeal.lean ====
abbrev S2x524288x320 : Shape := ⟨3, ![2, 524288, 320]⟩
abbrev S2x4096x320 : Shape := ⟨3, ![2, 4096, 320]⟩
abbrev S2x524288x352 : Shape := ⟨3, ![2, 524288, 352]⟩
abbrev S320x352 : Shape := ⟨2, ![320, 352]⟩
abbrev S2x4096x352 : Shape := ⟨3, ![2, 4096, 352]⟩
abbrev S2x4096x128x352 : Shape := ⟨4, ![2, 4096, 128, 352]⟩
abbrev S254x2x4096x352 : Shape := ⟨4, ![254, 2, 4096, 352]⟩
abbrev S1x2x4096x352 : Shape := ⟨4, ![1, 2, 4096, 352]⟩
abbrev S2x4096x1x352 : Shape := ⟨4, ![2, 4096, 1, 352]⟩
abbrev S2x4096x128x320 : Shape := ⟨4, ![2, 4096, 128, 320]⟩
abbrev S2x4096x1x320 : Shape := ⟨4, ![2, 4096, 1, 320]⟩
abbrev S1048576x320 : Shape := ⟨2, ![1048576, 320]⟩
abbrev S1048576x352 : Shape := ⟨2, ![1048576, 352]⟩

abbrev nBuf : Space → Nat
  | .hbm => 7
  | .vmem => 7
  | .smem => 0
  | _ => 0

abbrev bufTy : (tb : Table) → Fin (tcTables nBuf tb) → BufTy
  | .hbm, ⟨0, _⟩ => ⟨S2x524288x320, .fp8e4m3⟩
  | .hbm, ⟨1, _⟩ => ⟨S2x4096x320, .f32⟩
  | .hbm, ⟨2, _⟩ => ⟨S2x524288x352, .bf16⟩
  | .hbm, ⟨3, _⟩ => ⟨S320x352, .f32⟩
  | .hbm, ⟨4, _⟩ => ⟨S320x352, .f32⟩
  | .hbm, ⟨5, _⟩ => ⟨S2x524288x352, .fp8e5m2⟩
  | .hbm, ⟨6, _⟩ => ⟨S2x4096x352, .f32⟩
  | .local _ .vmem, ⟨0, _⟩ => ⟨S2x524288x320, .fp8e4m3⟩
  | .local _ .vmem, ⟨1, _⟩ => ⟨S2x4096x320, .f32⟩
  | .local _ .vmem, ⟨2, _⟩ => ⟨S2x524288x352, .bf16⟩
  | .local _ .vmem, ⟨3, _⟩ => ⟨S320x352, .f32⟩
  | .local _ .vmem, ⟨4, _⟩ => ⟨S320x352, .f32⟩
  | .local _ .vmem, ⟨5, _⟩ => ⟨S2x524288x352, .fp8e5m2⟩
  | .local _ .vmem, ⟨6, _⟩ => ⟨S2x4096x352, .f32⟩
  | _, _ => ⟨S2x524288x320, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x524288x320 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x524288x352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x524288x352 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BitRun.lean ====
module

public import proofs.«01_k».proof.Proof.Gen.Kernel.Frame.Runs

/-! The kernel's body on whole staging buffers runs without fault, at every grid step, whatever its
outputs and its scratch buffers hold. -/

@[expose] public section
set_option maxRecDepth 16384
noncomputable section
namespace Cert.Kernel.Wgrad
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [BitOps F]

local notation "𝕄" => MT nD τ sig Unit (Elt F) ℕ (UR sig nD τ) ℕ

set_option maxHeartbeats 4000000 in
/-- The body from its four inputs at their contents and everything else at anything: it ends, the
inputs as they were, everything else at some contents. The hypotheses say which of its conditions
exclude one another. -/
theorem body_run (c : Dev nD) (i : grid0.Coords) (arg2 : Memref sig .tc .vmem S320x8192 .fp8e4m3) (harg2 : arg2.IsWhole) (arg3 : Memref sig .tc .vmem S320x128 .f32) (harg3 : arg3.IsWhole) (arg4 : Memref sig .tc .vmem S352x8192 .bf16) (harg4 : arg4.IsWhole) (arg5 : Memref sig .tc .vmem S320x352 .f32) (harg5 : arg5.IsWhole) (arg6 : Memref sig .tc .vmem S320x352 .f32) (harg6 : arg6.IsWhole) (arg7 : Memref sig .tc .vmem S352x8192 .fp8e5m2) (harg7 : arg7.IsWhole) (arg8 : Memref sig .tc .vmem S352x128 .f32) (harg8 : arg8.IsWhole) (arg9 : Memref sig .tc .vmem S320x352 .f32) (harg9 : arg9.IsWhole) (arg10 : Memref sig .tc .vmem S160x128 .i32) (harg10 : arg10.IsWhole) (arg11 : Memref sig .tc .vmem S176x128 .i32) (harg11 : arg11.IsWhole)
    (h01 : cond0_0 i → cond0_1 i) (h12 : cond0_1 i → ¬cond0_2 i)
    (x0 : Vec F S320x8192 .fp8e4m3) (x1 : Vec F S320x128 .f32) (x2 : Vec F S352x8192 .bf16) (x3 : Vec F S320x352 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_quant_wgrad i arg2 harg2 arg3 harg3 arg4 harg4 arg5 harg5 arg6 harg6 arg7 harg7 arg8 harg8 arg9 harg9 arg10 harg10 arg11 harg11) K := by
  have hcase : (cond0_0 i ∧ cond0_1 i ∧ ¬cond0_2 i) ∨ (¬cond0_0 i ∧ cond0_1 i ∧ ¬cond0_2 i) ∨ (¬cond0_0 i ∧ ¬cond0_1 i ∧ cond0_2 i)
      ∨ (¬cond0_0 i ∧ ¬cond0_1 i ∧ ¬cond0_2 i) := by
    by_cases a : cond0_0 i
    · exact .inl ⟨a, h01 a, h12 (h01 a)⟩
    · by_cases b : cond0_1 i
      · exact .inr (.inl ⟨a, b, h12 b⟩)
      · by_cases d : cond0_2 i
        · exact .inr (.inr (.inl ⟨a, b, d⟩))
        · exact .inr (.inr (.inr ⟨a, b, d⟩))
  simp only [cc0_quant_wgrad_eq_skeleton]; unfold cc0_quant_wgrad_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  rcases hcase with ⟨hc0, hc1, hc2⟩ | ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Wgrad
-- ==== Proof.BitFrame.lean ====
module

public import proofs.«01_k».proof.Proof.BitRun
public import Idealize.ShloMosaic.Lib.Claim

/-! The kernel's frame: @main runs without fault, ends, and leaves its arguments and every semaphore
counter as they were. Nothing is said here of what the kernel computes. -/

@[expose] public section

set_option maxRecDepth 16384

noncomputable section

namespace Cert.Kernel.Wgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the host lines after the region write: nothing is said of them. -/
def tailRefs : Finset (Ref sig .tc) := {main_v10, main_v7, main_v8, main_v9}
theorem tail_writes : ∀ ops ∈ ([hostOps1] : List (List (HloOp τ sig (Elt F)))), ∀ op ∈ ops,
    ∀ b : Ref sig .tc, Proc.devRef .tc b ∈ op.writes → b ∈ tailRefs := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The run read at the argument arrays. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat tailRefs (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((hA c 3).trans (V_main_arg3 m c))⟩) h

/-- The windows of the three results: nothing is said of what is left in them. -/
def forgets0 : Fin 7 → Bool := fun w => w.val == 4 || w.val == 5 || w.val == 6

/-- The proof data of the pipeline on core `c`: the arrays as the region finds them, each input's buffer
at its block, the results unnamed, the scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))
set_option maxHeartbeats 4000000 in
/-- The body at any point: the inputs' buffers hold their blocks, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  iintro ⟨⟨⟨HS0, HS1, HS2⟩, Hg⟩, Ho, ⟨%d0, H0⟩, ⟨%d1, H1⟩, ⟨%d2, H2⟩, ⟨%d3, H3⟩, H4, H5, H6⟩
  iapply (body_run c (grid0.coords t) _ _ _ _ _ _ _ _ _ _ _ _ _ _ _ _ _ _ _ _ (fun h => (hcond0_1 t).mpr (by have := (hcond0_0 t).mp h; omega))
    (fun h h' => by have := (hcond0_1 t).mp h; have := (hcond0_2 t).mp h'; omega) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
/-- What the launch hands the region is the invariant, before every point and after the last. -/
theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) tailRefs (V m)) r ∧ r.2.sem = fun _ => 0) :=
  Pipeline.θ_run_frame_around_T_track_forget (Q' := _) cfgs (dats m) (0 : Fin 1) launch0 defs₀ Variants.none forgets0 tailRefs m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePostR` over the proof data with those windows
    forgotten, Dat.lean `Dat.toRForget`), and every other unscoped buffer outside `tailRefs` at its region-entry contents. -/
theorem run_main : θ_run defs (onTc (τ := τ) (main (F := F))) (s₀ m ρ) (Pipeline.RDat.FramePostR (cfgs 0) (fun c => (dats m 0 c).toRForget forgets0) tailRefs (V m)) :=
  (θ_run defs _ _).mono (fun _ h => h.1) (run_main_quiescent m ρ)
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept m ρ (fun c => (dats m 0 c).toRForget forgets0) (A_eq m) (run_main m ρ)

/-- The frame, with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))
end Cert.Kernel.Wgrad
-- ==== Proof.Vocab.lean ====
module

public import proofs.«01_k».proof.Proof.Gen.KernelIdeal.Loops

/-! One 128-token block of the kernel's body, named: the maximum of each output channel, the search
for its exponent field, the power-of-two scale, the codes, the dequantised block, the column of the
scales tile, and the dequantised block of the other operand. -/

@[expose] public section
noncomputable section
namespace Cert.KernelIdeal.Wgrad
open Cert.KernelIdeal Cert.KernelIdeal.Gen
open Idealize.ShloMosaic Idealize.ShloMosaic.TcCoe Idealize.ShloMosaic.Tactic
variable {F : FTy → Type} [FloatOps F]

/-- A block of the cotangent, put together from its even and its odd rows. -/
def blockOf (raw : Vec F S352x128 .bf16) : FVec F S352x128 .bf16 :=
  interleaveRows S352x128 (rowsOfParity 0 S176x128 raw bitcasts_S352x128_w16_S176x128_w32)
    (rowsOfParity 1 S176x128 raw bitcasts_S352x128_w16_S176x128_w32) bitcasts_S352x128_w16_S176x128_w32

/-- Every row's greatest magnitude, repeated along the row. -/
def rowMax (raw : Vec F S352x128 .bf16) : FVec F S352x128 .bf16 :=
  broadcastTo S352x128 (shapeCast S352x1 (shapeCast S352x1
    (multiReduction .maximumf [1] S352 (absf (blockOf raw)) 0xFF80#16 reduces_S352x128_S352 (.inr rfl) rfl)
    shapeCasts_S352_S352x1) shapeCasts_S352x1_S352x1) broadcasts_S352x1_S352x128

/-- One step of the search: the field grows by `d` where the magnitude reaches the threshold there. -/
def trial (a : FVec F S352x128 .bf16) (d : BitVec 16) (f : IVec S352x128 16) : IVec S352x128 16 :=
  select (cmpf .oge a (bitcastToFloat .bf16 (addi (addi f (broadcast S352x128 d)) (broadcast S352x128 2144#16))))
    (addi f (broadcast S352x128 d)) f

/-- The exponent field found by the eight steps. -/
def field (a : FVec F S352x128 .bf16) : IVec S352x128 16 :=
  trial a 128#16 (trial a 256#16 (trial a 512#16 (trial a 896#16 (trial a 1920#16 (trial a 3840#16
    (trial a 7680#16 (trial a 15232#16 (broadcast S352x128 0#16))))))))

/-- The bits of the scale: the field found, or the field of one outside the covered range. -/
def scaleBits (a : FVec F S352x128 .bf16) : IVec S352x128 16 :=
  addi (select (andi (cmpf .oge a (broadcast S352x128 (Scalar.ofBits .bf16 0x0860#16)))
      (cmpf .ole a (broadcast S352x128 (Scalar.ofBits .bf16 0x7F7F#16)))) (field a) (broadcast S352x128 16000#16))
    (broadcast S352x128 256#16)

/-- Every row's scale, repeated along the row. -/
def scale (raw : Vec F S352x128 .bf16) : FVec F S352x128 .bf16 := bitcastToFloat .bf16 (scaleBits (rowMax raw))

/-- The block's codes. -/
def code (raw : Vec F S352x128 .bf16) : FVec F S352x128 .fp8e5m2 :=
  truncf .fp8e5m2 (minimumf (broadcast S352x128 (Scalar.ofBits .bf16 0x4760#16))
    (maximumf (broadcast S352x128 (Scalar.ofBits .bf16 0xC760#16))
      (mulf (blockOf raw) (bitcastToFloat .bf16 (subi (broadcast S352x128 32512#16) (scaleBits (rowMax raw)))))))
    bitsLt_fp8e5m2_bf16

/-- The block dequantised. -/
def dequant (raw : Vec F S352x128 .bf16) : FVec F S352x128 .bf16 :=
  mulf (extf .bf16 (code raw) bitsLt_fp8e5m2_bf16) (scale raw)

/-- The rows of parity `p` of the tile of scales with the block's column, lane `v21 + j`, put in. -/
def putCol (v21 j : BitVec 32) (p : Fin 2) (raw : Vec F S352x128 .bf16) (old : FVec F S176x128 .bf16) : FVec F S176x128 .bf16 :=
  select (cmpi .eq (iota .tc S176x128 32 [1] iota_S176x128_d1_w32) (broadcast S176x128 (Scalar.addi v21 j)))
    (rowsOfParity p S176x128 (scale raw) bitcasts_S352x128_w16_S176x128_w32) old

/-- The tile's rows of parity `p`, as read from its buffer. -/
def tileRows (p : Fin 2) (w : Vec F S176x2x128 .bf16) : FVec F S176x128 .bf16 :=
  rowsOfParity p S176x128 (interleaveRows S352x128
    (shapeCast S176x128 (rowsOfParity 0 S176x1x128 w bitcasts_S176x2x128_w16_S176x1x128_w32) shapeCasts_S176x1x128_S176x128)
    (shapeCast S176x128 (rowsOfParity 1 S176x1x128 w bitcasts_S176x2x128_w16_S176x1x128_w32) shapeCasts_S176x1x128_S176x128)
    bitcasts_S352x128_w16_S176x128_w32) bitcasts_S352x128_w16_S176x128_w32

/-- The number, in the pair of grid steps, of trip `k`'s first block. -/
def firstBlock (v3 : BitVec 32) (k : Fin k0_t1_loop.trips) : BitVec 32 :=
  Scalar.addi v3 (Scalar.muli (Scf.iv 0#32 1#32 k) 8#32)

/-- The rows of parity `p` of the input scales, turned so that the trip's first block is lane 0. -/
def turned (v3 : BitVec 32) (k : Fin k0_t1_loop.trips) (p : Fin 2) (w : Vec F S160x2x128 .bf16) : FVec F S160x128 .bf16 :=
  dynamicRotate 1 (Scalar.subi 128#32 (firstBlock v3 k)) none
    (shapeCast S160x128 (rowsOfParity p S160x1x128 w bitcasts_S160x2x128_w16_S160x1x128_w32) shapeCasts_S160x1x128_S160x128)
    rotates_S160x128_d1

/-- A block of the first operand dequantised by lane `j` of the turned scales. -/
def operand (j : Nat) (h : S160x128.Slices ![0, j] S160x1) (lo hi : FVec F S160x128 .bf16) (x : Vec F S320x128 .fp8e4m3) :
    FVec F S320x128 .bf16 :=
  mulf (extf .bf16 (shapeCast S320x128 x shapeCasts_S320x128_S320x128) bitsLt_fp8e4m3_bf16)
    (broadcastTo S320x128 (shapeCast S320x1 (interleaveRows S320x1 (extractStridedSlice S160x1 ![0, j] lo h)
      (extractStridedSlice S160x1 ![0, j] hi h) bitcasts_S320x1_w16_S160x1_w32) shapeCasts_S320x1_S320x1)
      broadcasts_S320x1_S320x128)

/-- The trip's eight blocks of the first operand, side by side. -/
def operands (lo hi : FVec F S160x128 .bf16) (x : Fin 8 → Vec F S320x128 .fp8e4m3) : FVec F S320x1024 .bf16 :=
  concatenate S320x1024 1 [⟨S320x128, operand 0 slices_S160x128_o0_0_S160x1 lo hi (x 0)⟩,
    ⟨S320x128, operand 1 slices_S160x128_o0_1_S160x1 lo hi (x 1)⟩, ⟨S320x128, operand 2 slices_S160x128_o0_2_S160x1 lo hi (x 2)⟩,
    ⟨S320x128, operand 3 slices_S160x128_o0_3_S160x1 lo hi (x 3)⟩, ⟨S320x128, operand 4 slices_S160x128_o0_4_S160x1 lo hi (x 4)⟩,
    ⟨S320x128, operand 5 slices_S160x128_o0_5_S160x1 lo hi (x 5)⟩, ⟨S320x128, operand 6 slices_S160x128_o0_6_S160x1 lo hi (x 6)⟩,
    ⟨S320x128, operand 7 slices_S160x128_o0_7_S160x1 lo hi (x 7)⟩]
    concatenates_S320x128_S320x128_S320x128_S320x128_S320x128_S320x128_S320x128_S320x128_S320x1024_d1

/-- The trip's eight dequantised blocks of the cotangent, side by side. -/
def dequants (y : Fin 8 → Vec F S352x128 .bf16) : FVec F S352x1024 .bf16 :=
  concatenate S352x1024 1 [⟨S352x128, dequant (y 0)⟩, ⟨S352x128, dequant (y 1)⟩, ⟨S352x128, dequant (y 2)⟩, ⟨S352x128, dequant (y 3)⟩,
    ⟨S352x128, dequant (y 4)⟩, ⟨S352x128, dequant (y 5)⟩, ⟨S352x128, dequant (y 6)⟩, ⟨S352x128, dequant (y 7)⟩]
    concatenates_S352x128_S352x128_S352x128_S352x128_S352x128_S352x128_S352x128_S352x128_S352x1024_d1

/-- The accumulator after a trip that finds it at `acc`. -/
def accStep (lo hi : FVec F S160x128 .bf16) (x : Fin 8 → Vec F S320x128 .fp8e4m3) (y : Fin 8 → Vec F S352x128 .bf16)
    (acc : Vec F S320x352 .f32) : FVec F S320x352 .f32 :=
  shapeCast S320x352 (addf acc (matmul dot_S320x1024_S352x1024_S320x352_1_1_0_0_n_n none (operands lo hi x) (dequants y)
    (constant S320x352 .f32 0x00000000#32))) shapeCasts_S320x352_S320x352

/-- The rows of parity `p` of the tile after the trip's eight columns. -/
def tileHalf (v21 : BitVec 32) (p : Fin 2) (y : Fin 8 → Vec F S352x128 .bf16) (w : Vec F S176x2x128 .bf16) : FVec F S176x128 .bf16 :=
  putCol v21 7#32 p (y 7) (putCol v21 6#32 p (y 6) (putCol v21 5#32 p (y 5) (putCol v21 4#32 p (y 4)
    (putCol v21 3#32 p (y 3) (putCol v21 2#32 p (y 2) (putCol v21 1#32 p (y 1) (putCol v21 0#32 p (y 0) (tileRows p w))))))))

/-- The tile's buffer after a trip that finds it at `w`. -/
def tileStep (v21 : BitVec 32) (y : Fin 8 → Vec F S352x128 .bf16) (w : Vec F S176x2x128 .bf16) : Vec F S176x2x128 .bf16 :=
  interleaveRows S176x2x128 (shapeCast S176x1x128 (tileHalf v21 0 y w) shapeCasts_S176x128_S176x1x128)
    (shapeCast S176x1x128 (tileHalf v21 1 y w) shapeCasts_S176x128_S176x1x128) bitcasts_S176x2x128_w16_S176x1x128_w32

end Cert.KernelIdeal.Wgrad
-- ==== Proof.Trip.lean ====
module

public import proofs.«01_k».proof.Proof.Vocab

/-! What one trip of the loop stores, in the names of `Vocab`. -/

@[expose] public section
noncomputable section
namespace Cert.KernelIdeal.Wgrad
open Cert.KernelIdeal Cert.KernelIdeal.Gen
open Idealize.ShloMosaic Idealize.ShloMosaic.TcCoe Idealize.ShloMosaic.Tactic
variable {F : FTy → Type} [FloatOps F]

/-- Trip `k`'s block `r` of the cotangent. -/
def dyAt (arg4 : Memref sig .tc .vmem S352x8192 .bf16) (X : BufTy.Contents (Elt F) arg4.view.ty) (k : Fin k0_t1_loop.trips)
    (r : Fin 8) : Vec F S352x128 .bf16 :=
  View.readAt (Elt F) arg4.view (Rect.unit (s := S352x8192) (k0_off1 k (BitVec.ofNat 32 (128 * r.val))) S352x128.size (k0_off1_inb k r)).toLoadRect X

/-- Trip `k`'s block `r` of the first operand. -/
def xAt (arg2 : Memref sig .tc .vmem S320x8192 .fp8e4m3) (X : BufTy.Contents (Elt F) arg2.view.ty) (k : Fin k0_t1_loop.trips)
    (r : Fin 8) : Vec F S320x128 .fp8e4m3 :=
  View.readAt (Elt F) arg2.view (Rect.unit (s := S320x8192) (k0_off3 k (BitVec.ofNat 32 (128 * r.val))) S320x128.size (k0_off3_inb k r)).toLoadRect X

/-- The whole of a buffer of words, as loaded. -/
def wordsAt160 (arg10 : Memref sig .tc .vmem S160x2x128 .bf16) (X : BufTy.Contents (Elt F) arg10.view.ty) : Vec F S160x2x128 .bf16 :=
  View.readAt (Elt F) arg10.view (Rect.unit (s := S160x2x128) ![0, 0, 0] S160x2x128.size inb_S160x2x128_S160x2x128_0_0_0).toLoadRect X

def wordsAt176 (arg11 : Memref sig .tc .vmem S176x2x128 .bf16) (X : BufTy.Contents (Elt F) arg11.view.ty) : Vec F S176x2x128 .bf16 :=
  View.readAt (Elt F) arg11.view (Rect.unit (s := S176x2x128) ![0, 0, 0] S176x2x128.size inb_S176x2x128_S176x2x128_0_0_0).toLoadRect X

def accAt (arg9 : Memref sig .tc .vmem S320x352 .f32) (X : BufTy.Contents (Elt F) arg9.view.ty) : Vec F S320x352 .f32 :=
  View.readAt (Elt F) arg9.view (Rect.unit (s := S320x352) ![0, 0] S320x352.size inb_S320x352_S320x352_0_0).toLoadRect X

/-- The trip's piece of the codes at block `r`. -/
def codePiece (arg4 : Memref sig .tc .vmem S352x8192 .bf16) (X : BufTy.Contents (Elt F) arg4.view.ty) (k : Fin k0_t1_loop.trips)
    (r : Fin 8) : View.Piece (Elt F) S352x8192 .fp8e5m2 :=
  ⟨Rect.unit (s := S352x8192) (k0_off2 k (BitVec.ofNat 32 (128 * r.val))) S352x128.size (k0_off2_inb k r), code (dyAt arg4 X k r)⟩

section
variable (𝒱 : Variants) (c : Dev nD) (bd : Option 𝒱.V) (i : grid0.Coords) (arg2 : Memref sig .tc .vmem S320x8192 .fp8e4m3) (harg2 : arg2.IsWhole) (arg3 : Memref sig .tc .vmem S320x128 .f32) (harg3 : arg3.IsWhole) (arg4 : Memref sig .tc .vmem S352x8192 .bf16) (harg4 : arg4.IsWhole) (arg5 : Memref sig .tc .vmem S320x352 .f32) (harg5 : arg5.IsWhole) (arg6 : Memref sig .tc .vmem S320x352 .f32) (harg6 : arg6.IsWhole) (arg7 : Memref sig .tc .vmem S352x8192 .fp8e5m2) (harg7 : arg7.IsWhole) (arg8 : Memref sig .tc .vmem S352x128 .f32) (harg8 : arg8.IsWhole) (arg9 : Memref sig .tc .vmem S320x352 .f32) (harg9 : arg9.IsWhole) (arg10 : Memref sig .tc .vmem S160x2x128 .bf16) (harg10 : arg10.IsWhole) (arg11 : Memref sig .tc .vmem S176x2x128 .bf16) (harg11 : arg11.IsWhole) (v3 : BitVec 32) (X_arg2 : BufTy.Contents (Elt F) arg2.view.ty) (X_arg4 : BufTy.Contents (Elt F) arg4.view.ty) (X_arg10 : BufTy.Contents (Elt F) arg10.view.ty) (k : Fin k0_t1_loop.trips)
  (f7 : BufTy.Contents (Elt F) arg7.view.ty) (f9 : BufTy.Contents (Elt F) arg9.view.ty) (f11 : BufTy.Contents (Elt F) arg11.view.ty)

theorem trip_arg7 : (trip_k0_t1 (F := F) 𝒱 c bd i arg2 harg2 arg3 harg3 arg4 harg4 arg5 harg5 arg6 harg6 arg7 harg7 arg8 harg8 arg9 harg9 arg10 harg10 arg11 harg11 v3 X_arg2 X_arg4 X_arg10 k).1 f7 f9 f11 =
    [codePiece arg4 X_arg4 k 7, codePiece arg4 X_arg4 k 6, codePiece arg4 X_arg4 k 5, codePiece arg4 X_arg4 k 4,
      codePiece arg4 X_arg4 k 3, codePiece arg4 X_arg4 k 2, codePiece arg4 X_arg4 k 1, codePiece arg4 X_arg4 k 0] := by
  unfold trip_k0_t1
  rfl

theorem trip_arg9 : (trip_k0_t1 (F := F) 𝒱 c bd i arg2 harg2 arg3 harg3 arg4 harg4 arg5 harg5 arg6 harg6 arg7 harg7 arg8 harg8 arg9 harg9 arg10 harg10 arg11 harg11 v3 X_arg2 X_arg4 X_arg10 k).2.1 f7 f9 f11 =
    [⟨Rect.unit (s := S320x352) ![0, 0] S320x352.size inb_S320x352_S320x352_0_0,
      accStep (turned v3 k 0 (wordsAt160 arg10 X_arg10)) (turned v3 k 1 (wordsAt160 arg10 X_arg10)) (xAt arg2 X_arg2 k) (dyAt arg4 X_arg4 k)
        (accAt arg9 f9)⟩] := by
  unfold trip_k0_t1
  rfl

theorem trip_arg11 : (trip_k0_t1 (F := F) 𝒱 c bd i arg2 harg2 arg3 harg3 arg4 harg4 arg5 harg5 arg6 harg6 arg7 harg7 arg8 harg8 arg9 harg9 arg10 harg10 arg11 harg11 v3 X_arg2 X_arg4 X_arg10 k).2.2.1 f7 f9 f11 =
    [⟨Rect.unit (s := S176x2x128) ![0, 0, 0] S176x2x128.size inb_S176x2x128_S176x2x128_0_0_0,
      tileStep (firstBlock v3 k) (dyAt arg4 X_arg4 k) (wordsAt176 arg11 f11)⟩] := by
  unfold trip_k0_t1
  rfl
end

end Cert.KernelIdeal.Wgrad
-- ==== Proof.Loop.lean ====
module

public import proofs.«01_k».proof.Proof.Trip
public import Idealize.ShloMosaic.Lib.VecWindow
public import Idealize.ShloMosaic.Lib.WritesUnit
public import Idealize.ShloMosaic.Lib.Pointwise

/-! What the loop leaves: after its first `n` trips the accumulator, the tile of scales and the codes,
as functions of what the buffers read held when the loop began. -/

@[expose] public section
noncomputable section
namespace Cert.KernelIdeal.Wgrad
open Cert.KernelIdeal Cert.KernelIdeal.Gen
open Idealize.ShloMosaic Idealize.ShloMosaic.TcCoe Idealize.ShloMosaic.Tactic
variable {F : FTy → Type} [FloatOps F]

theorem trips_eq : k0_t1_loop.trips = 8 := by decide +kernel

theorem off1_eq : ∀ (k : Fin k0_t1_loop.trips) (r : Fin 8), k0_off1 k (BitVec.ofNat 32 (128 * r.val)) = ![0, 1024 * k.val + 128 * r.val] := by
  decide +kernel
theorem off2_eq : ∀ (k : Fin k0_t1_loop.trips) (r : Fin 8), k0_off2 k (BitVec.ofNat 32 (128 * r.val)) = ![0, 1024 * k.val + 128 * r.val] := by
  decide +kernel
theorem off3_eq : ∀ (k : Fin k0_t1_loop.trips) (r : Fin 8), k0_off3 k (BitVec.ofNat 32 (128 * r.val)) = ![0, 1024 * k.val + 128 * r.val] := by
  decide +kernel

theorem dyB_inb : ∀ (k : Fin k0_t1_loop.trips) (r : Fin 8), ∀ a, (![0, 1024 * k.val + 128 * r.val] : Fin 2 → ℕ) a + S352x128.size a ≤ S352x8192.size a := by
  decide +kernel
theorem xB_inb : ∀ (k : Fin k0_t1_loop.trips) (r : Fin 8), ∀ a, (![0, 1024 * k.val + 128 * r.val] : Fin 2 → ℕ) a + S320x128.size a ≤ S320x8192.size a := by
  decide +kernel

/-- Columns `1024k + 128r …` of a step's block of the cotangent. -/
def dyB (x2 : Vec F S352x8192 .bf16) (k : Fin k0_t1_loop.trips) (r : Fin 8) : Vec F S352x128 .bf16 :=
  VecWindow.window (s := S352x8192) x2 ![0, 1024 * k.val + 128 * r.val] S352x128.size (dyB_inb k r)

/-- Columns `1024k + 128r …` of a step's block of the first operand. -/
def xB (x0 : Vec F S320x8192 .fp8e4m3) (k : Fin k0_t1_loop.trips) (r : Fin 8) : Vec F S320x128 .fp8e4m3 :=
  VecWindow.window (s := S320x8192) x0 ![0, 1024 * k.val + 128 * r.val] S320x128.size (xB_inb k r)

theorem dyAt_eq (arg4 : Memref sig .tc .vmem S352x8192 .bf16) (X : BufTy.Contents (Elt F) arg4.view.ty) (k : Fin k0_t1_loop.trips) (r : Fin 8) :
    dyAt arg4 X k r = dyB (arg4.view.read (Elt F) X) k r :=
  View.readAt_unit arg4.view X _ (off1_eq k r) _

theorem xAt_eq (arg2 : Memref sig .tc .vmem S320x8192 .fp8e4m3) (X : BufTy.Contents (Elt F) arg2.view.ty) (k : Fin k0_t1_loop.trips) (r : Fin 8) :
    xAt arg2 X k r = xB (arg2.view.read (Elt F) X) k r :=
  View.readAt_unit arg2.view X _ (off3_eq k r) _

/-- The accumulator after the first `n` trips. -/
def accTrips (v3 : BitVec 32) (x0 : Vec F S320x8192 .fp8e4m3) (x2 : Vec F S352x8192 .bf16) (w : Vec F S160x2x128 .bf16)
    (acc : Vec F S320x352 .f32) : ℕ → Vec F S320x352 .f32
  | 0 => acc
  | n + 1 => if h : n < k0_t1_loop.trips then
      accStep (turned v3 ⟨n, h⟩ 0 w) (turned v3 ⟨n, h⟩ 1 w) (xB x0 ⟨n, h⟩) (dyB x2 ⟨n, h⟩) (accTrips v3 x0 x2 w acc n)
    else accTrips v3 x0 x2 w acc n

/-- The tile of scales after the first `n` trips. -/
def tileTrips (v3 : BitVec 32) (x2 : Vec F S352x8192 .bf16) (tile : Vec F S176x2x128 .bf16) : ℕ → Vec F S176x2x128 .bf16
  | 0 => tile
  | n + 1 => if h : n < k0_t1_loop.trips then
      tileStep (firstBlock v3 ⟨n, h⟩) (dyB x2 ⟨n, h⟩) (tileTrips v3 x2 tile n)
    else tileTrips v3 x2 tile n

/-- The codes of a step's block, column by column. -/
def codesOf (x2 : Vec F S352x8192 .bf16) : Vec F S352x8192 .fp8e5m2 := fun y =>
  have h : (y 1).val < 8192 := (y 1).isLt
  code (dyB x2 ⟨(y 1).val / 1024, by rw [trips_eq]; omega⟩ ⟨(y 1).val / 128 % 8, by omega⟩)
    (ix2 (y 0) (⟨(y 1).val % 128, by omega⟩ : Fin 128))

theorem codesOf_at (x2 : Vec F S352x8192 .bf16) (y : S352x8192.Idx) (k : Fin k0_t1_loop.trips) (r : Fin 8) (l : Fin 128)
    (h : (y 1).val = 1024 * k.val + 128 * r.val + l.val) :
    codesOf x2 y = code (dyB x2 k r) (ix2 (y 0) l) := by
  have hk : (⟨(y 1).val / 1024, by have := k.isLt; have := trips_eq; omega⟩ : Fin k0_t1_loop.trips) = k := Fin.ext (by show _ / _ = _; omega)
  have hr : (⟨(y 1).val / 128 % 8, by omega⟩ : Fin 8) = r := Fin.ext (by show _ % _ = _; omega)
  have hl : (⟨(y 1).val % 128, by omega⟩ : Fin 128) = l := Fin.ext (by show _ % _ = _; omega)
  exact congr (congrArg code (congr (congrArg (dyB x2) hk) hr)) (congrArg (ix2 (y 0)) hl)

/-- One piece of the codes: its own columns read the codes, the others what was there. -/
theorem read_codePiece (arg7 : Memref sig .tc .vmem S352x8192 .fp8e5m2) (arg4 : Memref sig .tc .vmem S352x8192 .bf16)
    (X : BufTy.Contents (Elt F) arg4.view.ty) (f : BufTy.Contents (Elt F) arg7.view.ty) (L : List (View.Piece (Elt F) S352x8192 .fp8e5m2))
    (k : Fin k0_t1_loop.trips) (r : Fin 8) (y : S352x8192.Idx) :
    arg7.view.read (Elt F) (arg7.view.writes (Elt F) f (codePiece arg4 X k r :: L)) y =
      if 1024 * k.val + 128 * r.val ≤ (y 1).val ∧ (y 1).val < 1024 * k.val + 128 * r.val + 128 then codesOf (arg4.view.read (Elt F) X) y
      else arg7.view.read (Elt F) (arg7.view.writes (Elt F) f L) y := by
  split
  next h =>
    have e := View.read_writes_cons_unit_of_mem arg7.view f (k0_off2_inb k r) (code (dyAt arg4 X k r)) L y
      (ix2 (y 0) (⟨(y 1).val - (1024 * k.val + 128 * r.val), by omega⟩ : Fin 128)) (off2_eq k r) (by
        intro a
        fin_cases a
        · show (y 0).val = 0 + (y 0).val; omega
        · show (y 1).val = 1024 * k.val + 128 * r.val + ((y 1).val - (1024 * k.val + 128 * r.val)); omega)
    rw [codesOf_at _ y k r ⟨(y 1).val - (1024 * k.val + 128 * r.val), by omega⟩ (by show _ = _ + (_ - _); omega), ← dyAt_eq]
    exact e
  next h =>
    exact View.read_writes_cons_unit_of_not_mem arg7.view f (k0_off2_inb k r) (code (dyAt arg4 X k r)) L y (off2_eq k r) 1 (by
      show (y 1).val < 1024 * k.val + 128 * r.val ∨ 1024 * k.val + 128 * r.val + 128 ≤ (y 1).val
      omega)

section
variable (𝒱 : Variants) (c : Dev nD) (bd : Option 𝒱.V) (i : grid0.Coords) (arg2 : Memref sig .tc .vmem S320x8192 .fp8e4m3) (harg2 : arg2.IsWhole) (arg3 : Memref sig .tc .vmem S320x128 .f32) (harg3 : arg3.IsWhole) (arg4 : Memref sig .tc .vmem S352x8192 .bf16) (harg4 : arg4.IsWhole) (arg5 : Memref sig .tc .vmem S320x352 .f32) (harg5 : arg5.IsWhole) (arg6 : Memref sig .tc .vmem S320x352 .f32) (harg6 : arg6.IsWhole) (arg7 : Memref sig .tc .vmem S352x8192 .fp8e5m2) (harg7 : arg7.IsWhole) (arg8 : Memref sig .tc .vmem S352x128 .f32) (harg8 : arg8.IsWhole) (arg9 : Memref sig .tc .vmem S320x352 .f32) (harg9 : arg9.IsWhole) (arg10 : Memref sig .tc .vmem S160x2x128 .bf16) (harg10 : arg10.IsWhole) (arg11 : Memref sig .tc .vmem S176x2x128 .bf16) (harg11 : arg11.IsWhole) (v3 : BitVec 32) (X_arg2 : BufTy.Contents (Elt F) arg2.view.ty) (X_arg4 : BufTy.Contents (Elt F) arg4.view.ty) (X_arg10 : BufTy.Contents (Elt F) arg10.view.ty)
  (G7 : BufTy.Contents (Elt F) arg7.view.ty) (G9 : BufTy.Contents (Elt F) arg9.view.ty) (G11 : BufTy.Contents (Elt F) arg11.view.ty)

/-- The accumulator after the first `n` trips. -/
theorem loop_acc : ∀ n, n ≤ k0_t1_loop.trips →
    arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 n).2.1)
      = accTrips v3 (arg2.view.read (Elt F) X_arg2) (arg4.view.read (Elt F) X_arg4) (arg10.view.read (Elt F) X_arg10) (arg9.view.read (Elt F) G9) n
  | 0, _ => rfl
  | n + 1, hn => by
    have ih := loop_acc n (Nat.le_of_succ_le hn)
    have e := pb_k0_t1_succ (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 ⟨n, hn⟩
    refine (congrArg (fun p => arg9.view.read (Elt F) (arg9.view.writes (Elt F) G9 p.2.1)) e).trans ?_
    dsimp only
    rw [trip_arg9]
    refine (View.read_writes_full arg9.view G9 _ _ _).trans ?_
    rw [accTrips, dif_pos (show n < k0_t1_loop.trips from hn), ← ih]
    unfold accAt wordsAt160
    rw [View.readAt_full, View.readAt_full]
    congr 1
    · funext r; exact xAt_eq arg2 X_arg2 _ r
    · funext r; exact dyAt_eq arg4 X_arg4 _ r

/-- The tile after the first `n` trips. -/
theorem loop_tile : ∀ n, n ≤ k0_t1_loop.trips →
    arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 n).2.2)
      = tileTrips v3 (arg4.view.read (Elt F) X_arg4) (arg11.view.read (Elt F) G11) n
  | 0, _ => rfl
  | n + 1, hn => by
    have ih := loop_tile n (Nat.le_of_succ_le hn)
    have e := pb_k0_t1_succ (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 ⟨n, hn⟩
    refine (congrArg (fun p => arg11.view.read (Elt F) (arg11.view.writes (Elt F) G11 p.2.2)) e).trans ?_
    dsimp only
    rw [trip_arg11]
    refine (View.read_writes_full arg11.view G11 _ _ _).trans ?_
    rw [tileTrips, dif_pos (show n < k0_t1_loop.trips from hn), ← ih]
    unfold wordsAt176
    rw [View.readAt_full]
    congr 1
    funext r; exact dyAt_eq arg4 X_arg4 _ r

/-- The codes after the first `n` trips. -/
theorem loop_codes (y : S352x8192.Idx) : ∀ n, n ≤ k0_t1_loop.trips →
    arg7.view.read (Elt F) (arg7.view.writes (Elt F) G7 (pb_k0_t1 (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 n).1) y
      = if (y 1).val < 1024 * n then codesOf (arg4.view.read (Elt F) X_arg4) y else arg7.view.read (Elt F) G7 y
  | 0, _ => by rw [if_neg (by omega)]; rfl
  | n + 1, hn => by
    have ih := loop_codes y n (Nat.le_of_succ_le hn)
    have e := pb_k0_t1_succ (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 ⟨n, hn⟩
    refine (congrArg (fun p => arg7.view.read (Elt F) (arg7.view.writes (Elt F) G7 p.1) y) e).trans ?_
    dsimp only
    rw [trip_arg7]
    show arg7.view.read (Elt F) (arg7.view.writes (Elt F) G7 (_ :: _ :: _ :: _ :: _ :: _ :: _ :: _ :: _)) y = _
    simp only [read_codePiece, List.append_eq, List.nil_append, ih]
    simp only [Fin.val_ofNat, show (7 : Fin 8).val = 7 from rfl, show (6 : Fin 8).val = 6 from rfl, show (5 : Fin 8).val = 5 from rfl, show (4 : Fin 8).val = 4 from rfl,
      show (3 : Fin 8).val = 3 from rfl, show (2 : Fin 8).val = 2 from rfl, show (1 : Fin 8).val = 1 from rfl, show (0 : Fin 8).val = 0 from rfl]
    split_ifs <;> first | rfl | (exfalso; omega)
variable {x0 : Vec F S320x8192 .fp8e4m3} {x2 : Vec F S352x8192 .bf16} {words : Vec F S160x2x128 .bf16}
  {acc0 : Vec F S320x352 .f32} {tile0 : Vec F S176x2x128 .bf16}

/-- The accumulator after the loop, its buffer begun at what the step before left. -/
theorem acc_of (h0 : arg2.view.read (Elt F) X_arg2 = x0) (h2 : arg4.view.read (Elt F) X_arg4 = x2) (hw : arg10.view.read (Elt F) X_arg10 = words)
    (h : arg9.view.read (Elt F) G9 = acc0) :
    arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 k0_t1_loop.trips).2.1) = accTrips v3 x0 x2 words acc0 k0_t1_loop.trips := by
  subst h0 h2 hw h; exact loop_acc (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 _ le_rfl

/-- The accumulator after the loop, its buffer stored into before. -/
theorem acc_of' (L : List (View.Piece (Elt F) S320x352 .f32)) (h0 : arg2.view.read (Elt F) X_arg2 = x0) (h2 : arg4.view.read (Elt F) X_arg4 = x2)
    (hw : arg10.view.read (Elt F) X_arg10 = words) (h : arg9.view.read (Elt F) (arg9.view.writes (Elt F) G9 L) = acc0) :
    arg9.view.read (Elt F) (arg9.view.writes (Elt F) G9 ((pb_k0_t1 (F := F) 𝒱 c bd i arg2 harg2 arg3 harg3 arg4 harg4 arg5 harg5 arg6 harg6 arg7 harg7 arg8 harg8 arg9 harg9 arg10 harg10 arg11 harg11 v3 X_arg2 X_arg4 X_arg10 G7 (arg9.view.writes (Elt F) G9 L) G11 k0_t1_loop.trips).2.1 ++ L)) = accTrips v3 x0 x2 words acc0 k0_t1_loop.trips := by
  rw [View.writes_append]; exact acc_of (F := F) 𝒱 c bd i arg2 harg2 arg3 harg3 arg4 harg4 arg5 harg5 arg6 harg6 arg7 harg7 arg8 harg8 arg9 harg9 arg10 harg10 arg11 harg11 v3 X_arg2 X_arg4 X_arg10 G7 _ G11 h0 h2 hw h

/-- The tile after the loop, its buffer begun at what the step before left. -/
theorem tile_of (h2 : arg4.view.read (Elt F) X_arg4 = x2) (h : arg11.view.read (Elt F) G11 = tile0) :
    arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 k0_t1_loop.trips).2.2) = tileTrips v3 x2 tile0 k0_t1_loop.trips := by
  subst h2 h; exact loop_tile (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 _ le_rfl

/-- The tile after the loop, its buffer stored into before. -/
theorem tile_of' (L : List (View.Piece (Elt F) S176x2x128 .bf16)) (h2 : arg4.view.read (Elt F) X_arg4 = x2)
    (h : arg11.view.read (Elt F) (arg11.view.writes (Elt F) G11 L) = tile0) :
    arg11.view.read (Elt F) (arg11.view.writes (Elt F) G11 ((pb_k0_t1 (F := F) 𝒱 c bd i arg2 harg2 arg3 harg3 arg4 harg4 arg5 harg5 arg6 harg6 arg7 harg7 arg8 harg8 arg9 harg9 arg10 harg10 arg11 harg11 v3 X_arg2 X_arg4 X_arg10 G7 G9 (arg11.view.writes (Elt F) G11 L) k0_t1_loop.trips).2.2 ++ L)) = tileTrips v3 x2 tile0 k0_t1_loop.trips := by
  rw [View.writes_append]; exact tile_of (F := F) 𝒱 c bd i arg2 harg2 arg3 harg3 arg4 harg4 arg5 harg5 arg6 harg6 arg7 harg7 arg8 harg8 arg9 harg9 arg10 harg10 arg11 harg11 v3 X_arg2 X_arg4 X_arg10 G7 G9 _ h2 h

/-- The codes after the loop. -/
theorem codes_of (h2 : arg4.view.read (Elt F) X_arg4 = x2) :
    arg7.view.read (Elt F) (arg7.view.writes (Elt F) G7 (pb_k0_t1 (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 k0_t1_loop.trips).1) = codesOf x2 := by
  subst h2
  funext y
  have h : (y 1).val < 8192 := (y 1).isLt
  rw [loop_codes (F := F) 𝒱 c bd i arg2 harg2 arg3 harg3 arg4 harg4 arg5 harg5 arg6 harg6 arg7 harg7 arg8 harg8 arg9 harg9 arg10 harg10 arg11 harg11 v3 X_arg2 X_arg4 X_arg10 G7 G9 G11 y _ le_rfl, if_pos (by rw [trips_eq]; omega)]
end

end Cert.KernelIdeal.Wgrad
-- ==== Proof.Run.lean ====
module

public import proofs.«01_k».proof.Proof.Gen.KernelIdeal.Frame.Runs
public import proofs.«01_k».proof.Proof.Loop

/-! The kernel's body on whole staging buffers, at any grid step: what it leaves in every buffer. -/

@[expose] public section
set_option maxRecDepth 16384
noncomputable section
namespace Cert.KernelIdeal.Wgrad
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ (UR sig nD τ) ℕ

/-- The number, in the pair of grid steps, of a step's first block. -/
def stepBase (i : grid0.Coords) : BitVec 32 := Scalar.muli (Scalar.remsi (BitVec.ofNat 32 (i 1).val) 2#32) 64#32

set_option maxHeartbeats 4000000 in
/-- The body from its buffers at the contents named: the codes of its block, the tile and the accumulator
after the trips (begun again where the step's conditions say so), and the sum at the last step. -/
theorem body_run (c : Dev nD) (i : grid0.Coords) (arg2 : Memref sig .tc .vmem S320x8192 .fp8e4m3) (harg2 : arg2.IsWhole) (arg3 : Memref sig .tc .vmem S320x128 .f32) (harg3 : arg3.IsWhole) (arg4 : Memref sig .tc .vmem S352x8192 .bf16) (harg4 : arg4.IsWhole) (arg5 : Memref sig .tc .vmem S320x352 .f32) (harg5 : arg5.IsWhole) (arg6 : Memref sig .tc .vmem S320x352 .f32) (harg6 : arg6.IsWhole) (arg7 : Memref sig .tc .vmem S352x8192 .fp8e5m2) (harg7 : arg7.IsWhole) (arg8 : Memref sig .tc .vmem S352x128 .f32) (harg8 : arg8.IsWhole) (arg9 : Memref sig .tc .vmem S320x352 .f32) (harg9 : arg9.IsWhole) (arg10 : Memref sig .tc .vmem S160x2x128 .bf16) (harg10 : arg10.IsWhole) (arg11 : Memref sig .tc .vmem S176x2x128 .bf16) (harg11 : arg11.IsWhole)
    (h01 : cond0_0 i → cond0_1 i) (h12 : cond0_1 i → ¬cond0_2 i)
    (x0 : Vec F S320x8192 .fp8e4m3) (x1 : Vec F S320x128 .f32) (x2 : Vec F S352x8192 .bf16) (x3 : Vec F S320x352 .f32) (xi4 : Vec F S320x352 .f32) (xs0 : Vec F S320x352 .f32) (xs1 : Vec F S160x2x128 .bf16) (xs2 : Vec F S176x2x128 .bf16)
    (acc0 : Vec F S320x352 .f32) (hA : cond0_0 i → acc0 = k0_pay1) (hA' : ¬cond0_0 i → acc0 = xs0)
    (words : Vec F S160x2x128 .bf16) (hW : cond0_1 i → words = k0_pay2 x1) (hW' : ¬cond0_1 i → words = xs1)
    (tile0 : Vec F S176x2x128 .bf16) (hT : cond0_1 i → tile0 = constant S176x2x128 .bf16 0x0000#16) (hT' : ¬cond0_1 i → tile0 = xs2)
    (out : Vec F S320x352 .f32) (hO : cond0_2 i → out = k0_pay7 x3 (accTrips (stepBase i) x0 x2 words acc0 k0_t1_loop.trips)) (hO' : ¬cond0_2 i → out = xi4)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare out ∗ owns (c : Thread nD τ) arg7 fullShare (codesOf x2) ∗ owns (c : Thread nD τ) arg8 fullShare (k0_pay6 (tileTrips (stepBase i) x2 tile0 k0_t1_loop.trips)) ∗ owns (c : Thread nD τ) arg9 fullShare (accTrips (stepBase i) x0 x2 words acc0 k0_t1_loop.trips) ∗ owns (c : Thread nD τ) arg10 fullShare words ∗ owns (c : Thread nD τ) arg11 fullShare (tileTrips (stepBase i) x2 tile0 k0_t1_loop.trips)) -∗ K ⟨⟩))
      ⊢ wp frame (wpE (defs₀ (F := F)) Variants.none c none) E (cc0_quant_wgrad i arg2 harg2 arg3 harg3 arg4 harg4 arg5 harg5 arg6 harg6 arg7 harg7 arg8 harg8 arg9 harg9 arg10 harg10 arg11 harg11) K := by
  have hcase : (cond0_0 i ∧ cond0_1 i ∧ ¬cond0_2 i) ∨ (¬cond0_0 i ∧ cond0_1 i ∧ ¬cond0_2 i) ∨ (¬cond0_0 i ∧ ¬cond0_1 i ∧ cond0_2 i)
      ∨ (¬cond0_0 i ∧ ¬cond0_1 i ∧ ¬cond0_2 i) := by
    by_cases a : cond0_0 i
    · exact .inl ⟨a, h01 a, h12 (h01 a)⟩
    · by_cases b : cond0_1 i
      · exact .inr (.inl ⟨a, b, h12 b⟩)
      · by_cases d : cond0_2 i
        · exact .inr (.inr (.inl ⟨a, b, d⟩))
        · exact .inr (.inr (.inr ⟨a, b, d⟩))
  simp only [cc0_quant_wgrad_eq_skeleton]; unfold cc0_quant_wgrad_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hs0, HS0⟩, ⟨%fs1, %hs1, HS1⟩, ⟨%fs2, %hs2, HS2⟩, Hk⟩
  obtain rfl := harg2.eq_unread hf0; obtain rfl := harg3.eq_unread hf1; obtain rfl := harg4.eq_unread hf2; obtain rfl := harg5.eq_unread hf3
  obtain rfl := harg6.eq_unread hf4; obtain rfl := harg9.eq_unread hs0; obtain rfl := harg10.eq_unread hs1; obtain rfl := harg11.eq_unread hs2
  rcases hcase with ⟨hc0, hc1, hc2⟩ | ⟨hc0, hc1, hc2⟩ | ⟨hc0, hc1, hc2⟩ | ⟨hc0, hc1, hc2⟩
  · skip
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; exact hf4.trans (hO' hc2).symm
    isplitl [H5]
    · iexists _; isplitr; swap; · iexact H5
      ipureintro; exact codes_of _ _ _ _ _ _ _ _ _ _ _ _ _ _ _ _ _ _ _ _ _ _ _ _ _ _ _ _ _ _ _ hf2
    isplitl [H6]
    · iexists _; isplitr; swap; · iexact H6
      ipureintro; exact (View.read_writes_full ..).trans (congrArg k0_pay6 ((View.readAt_full ..).trans (tile_of' _ _ _ _ _ _ _ _ _ _ _ _ _ _ _ _ _ _ _ _ _ _ _ _ _ _ _ _ _ _ _ _ hf2 ((View.read_writes_full ..).trans (hT hc1).symm))))
    isplitl [HS0]
    · iexists _; isplitr; swap; · iexact HS0
      ipureintro; exact acc_of' _ _ _ _ _ _ _ _ _ _ _ _ _ _ _ _ _ _ _ _ _ _ _ _ _ _ _ _ _ _ _ _ hf0 hf2 ((View.read_writes_full ..).trans ((congrArg k0_pay2 ((View.readAt_full ..).trans hf1)).trans (hW hc1).symm)) ((View.read_writes_full ..).trans (hA hc0).symm)
    isplitl [HS1]
    · iexists _; isplitr; swap; · iexact HS1
      ipureintro; exact (View.read_writes_full ..).trans ((congrArg k0_pay2 ((View.readAt_full ..).trans hf1)).trans (hW hc1).symm)
    iexists _; isplitr; swap; · iexact HS2
    ipureintro; exact tile_of' _ _ _ _ _ _ _ _ _ _ _ _ _ _ _ _ _ _ _ _ _ _ _ _ _ _ _ _ _ _ _ _ hf2 ((View.read_writes_full ..).trans (hT hc1).symm)
  · skip
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; exact hf4.trans (hO' hc2).symm
    isplitl [H5]
    · iexists _; isplitr; swap; · iexact H5
      ipureintro; exact codes_of _ _ _ _ _ _ _ _ _ _ _ _ _ _ _ _ _ _ _ _ _ _ _ _ _ _ _ _ _ _ _ hf2
    isplitl [H6]
    · iexists _; isplitr; swap; · iexact H6
      ipureintro; exact (View.read_writes_full ..).trans (congrArg k0_pay6 ((View.readAt_full ..).trans (tile_of' _ _ _ _ _ _ _ _ _ _ _ _ _ _ _ _ _ _ _ _ _ _ _ _ _ _ _ _ _ _ _ _ hf2 ((View.read_writes_full ..).trans (hT hc1).symm))))
    isplitl [HS0]
    · iexists _; isplitr; swap; · iexact HS0
      ipureintro; exact acc_of _ _ _ _ _ _ _ _ _ _ _ _ _ _ _ _ _ _ _ _ _ _ _ _ _ _ _ _ _ _ _ hf0 hf2 ((View.read_writes_full ..).trans ((congrArg k0_pay2 ((View.readAt_full ..).trans hf1)).trans (hW hc1).symm)) (hs0.trans (hA' hc0).symm)
    isplitl [HS1]
    · iexists _; isplitr; swap; · iexact HS1
      ipureintro; exact (View.read_writes_full ..).trans ((congrArg k0_pay2 ((View.readAt_full ..).trans hf1)).trans (hW hc1).symm)
    iexists _; isplitr; swap; · iexact HS2
    ipureintro; exact tile_of' _ _ _ _ _ _ _ _ _ _ _ _ _ _ _ _ _ _ _ _ _ _ _ _ _ _ _ _ _ _ _ _ hf2 ((View.read_writes_full ..).trans (hT hc1).symm)
  · skip
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; exact (View.read_writes_full ..).trans ((congr (congrArg k0_pay7 ((View.readAt_full ..).trans hf3)) ((View.readAt_full ..).trans (acc_of _ _ _ _ _ _ _ _ _ _ _ _ _ _ _ _ _ _ _ _ _ _ _ _ _ _ _ _ _ _ _ hf0 hf2 (hs1.trans (hW' hc1).symm) (hs0.trans (hA' hc0).symm)))).trans (hO hc2).symm)
    isplitl [H5]
    · iexists _; isplitr; swap; · iexact H5
      ipureintro; exact codes_of _ _ _ _ _ _ _ _ _ _ _ _ _ _ _ _ _ _ _ _ _ _ _ _ _ _ _ _ _ _ _ hf2
    isplitl [H6]
    · iexists _; isplitr; swap; · iexact H6
      ipureintro; exact (View.read_writes_full ..).trans (congrArg k0_pay6 ((View.readAt_full ..).trans (tile_of _ _ _ _ _ _ _ _ _ _ _ _ _ _ _ _ _ _ _ _ _ _ _ _ _ _ _ _ _ _ _ hf2 (hs2.trans (hT' hc1).symm))))
    isplitl [HS0]
    · iexists _; isplitr; swap; · iexact HS0
      ipureintro; exact acc_of _ _ _ _ _ _ _ _ _ _ _ _ _ _ _ _ _ _ _ _ _ _ _ _ _ _ _ _ _ _ _ hf0 hf2 (hs1.trans (hW' hc1).symm) (hs0.trans (hA' hc0).symm)
    isplitl [HS1]
    · iexists _; isplitr; swap; · iexact HS1
      ipureintro; exact hs1.trans (hW' hc1).symm
    iexists _; isplitr; swap; · iexact HS2
    ipureintro; exact tile_of _ _ _ _ _ _ _ _ _ _ _ _ _ _ _ _ _ _ _ _ _ _ _ _ _ _ _ _ _ _ _ hf2 (hs2.trans (hT' hc1).symm)
  · skip
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro; exact hf4.trans (hO' hc2).symm
    isplitl [H5]
    · iexists _; isplitr; swap; · iexact H5
      ipureintro; exact codes_of _ _ _ _ _ _ _ _ _ _ _ _ _ _ _ _ _ _ _ _ _ _ _ _ _ _ _ _ _ _ _ hf2
    isplitl [H6]
    · iexists _; isplitr; swap; · iexact H6
      ipureintro; exact (View.read_writes_full ..).trans (congrArg k0_pay6 ((View.readAt_full ..).trans (tile_of _ _ _ _ _ _ _ _ _ _ _ _ _ _ _ _ _ _ _ _ _ _ _ _ _ _ _ _ _ _ _ hf2 (hs2.trans (hT' hc1).symm))))
    isplitl [HS0]
    · iexists _; isplitr; swap; · iexact HS0
      ipureintro; exact acc_of _ _ _ _ _ _ _ _ _ _ _ _ _ _ _ _ _ _ _ _ _ _ _ _ _ _ _ _ _ _ _ hf0 hf2 (hs1.trans (hW' hc1).symm) (hs0.trans (hA' hc0).symm)
    isplitl [HS1]
    · iexists _; isplitr; swap; · iexact HS1
      ipureintro; exact hs1.trans (hW' hc1).symm
    iexists _; isplitr; swap; · iexact HS2
    ipureintro; exact tile_of _ _ _ _ _ _ _ _ _ _ _ _ _ _ _ _ _ _ _ _ _ _ _ _ _ _ _ _ _ _ _ hf2 (hs2.trans (hT' hc1).symm)

end Cert.KernelIdeal.Wgrad
-- ==== Proof.Frame.lean ====
module

public import proofs.«01_k».proof.Proof.Run
public import Idealize.ShloMosaic.Lib.Claim

/-! The kernel's run over its whole grid: what the carried buffers hold after every point, and the frame. -/

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried buffers: the accumulator, the input scales of the pair of points, the tile of scales. -/
abbrev St (F : FTy → Type) : Type := Vec F S320x352 .f32 × Vec F S160x2x128 .bf16 × Vec F S176x2x128 .bf16

/-- What the loop of point `t` finds, the point before having left `p`. -/
def stIn (c : Dev nD) (t : Fin cfg0.N) (p : St F) : St F :=
  (if t.val % 128 = 0 then k0_pay1 else p.1, if t.val % 2 = 0 then k0_pay2 (iblk m c 1 t) else p.2.1,
    if t.val % 2 = 0 then constant S176x2x128 .bf16 0x0000#16 else p.2.2)

/-- What the loop of point `t` leaves, having found `q`. -/
def stOut (c : Dev nD) (t : Fin cfg0.N) (q : St F) : St F :=
  (accTrips (stepBase (grid0.coords t)) (iblk m c 0 t) (iblk m c 2 t) q.2.1 q.1 k0_t1_loop.trips, q.2.1,
    tileTrips (stepBase (grid0.coords t)) (iblk m c 2 t) q.2.2 k0_t1_loop.trips)

/-- What the first point's loop finds. -/
def st0 (c : Dev nD) (h : 0 < cfg0.N) : St F := (k0_pay1, k0_pay2 (iblk m c 1 ⟨0, h⟩), constant S176x2x128 .bf16 0x0000#16)

/-- What point `n` leaves in the carried buffers. -/
def stAt (c : Dev nD) : (n : ℕ) → n < cfg0.N → St F
  | 0, h => stOut m c ⟨0, h⟩ (st0 m c h)
  | n + 1, h => stOut m c ⟨n + 1, h⟩ (stIn m c ⟨n + 1, h⟩ (stAt c n (Nat.lt_of_succ_lt h)))

theorem stAt_zero (c : Dev nD) (t : Fin cfg0.N) (hz : t.val = 0) (p : St F) : stAt m c t.val t.isLt = stOut m c t (stIn m c t p) := by
  obtain ⟨n, hn⟩ := t
  dsimp only at hz
  subst hz
  rfl

theorem stAt_pos (c : Dev nD) (t : Fin cfg0.N) (hz : t.val ≠ 0) :
    stAt m c t.val t.isLt = stOut m c t (stIn m c t (stAt m c (t.val - 1) (by have := t.isLt; omega))) := by
  obtain ⟨n, hn⟩ := t
  cases n with
  | zero => exact absurd rfl hz
  | succ n => rfl

/-- The invariant before position `n`: at first every carried buffer at anything, afterwards at what the
point before left; and the generator's register at some state. -/
def PhiS (c : Dev nD) : (n : ℕ) → n ≤ cfg0.N → sProp 𝕄
  | 0, _ => Pipeline.ΦA spec0 c
  | n + 1, hn => iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((stAt m c (n - 1) (by omega)).1) ∗ owns (c : Thread nD τ) scM0_1 fullShare ((stAt m c (n - 1) (by omega)).2.1) ∗ owns (c : Thread nD τ) scM0_2 fullShare ((stAt m c (n - 1) (by omega)).2.2)) ∗ (∃ r, prngReg c r)) := by
  cases n with
  | zero => exact absurd rfl hz
  | succ n => rfl
/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay7 (iblk m c 3 t) (stAt m c t.val t.isLt).1
    | ⟨5, _⟩ => codesOf (iblk m c 2 t)
    | ⟨6, _⟩ => k0_pay6 (stAt m c t.val t.isLt).2.2
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay7 (iblk m c 3 t) (stAt m c t.val t.isLt).1 := by dsimp only [dats]
theorem after0_5 (c : Dev nD) (t : Fin cfg0.N) : (dats m 0 c).after 5 t = codesOf (iblk m c 2 t) := by dsimp only [dats]
theorem after0_6 (c : Dev nD) (t : Fin cfg0.N) : (dats m 0 c).after 6 t = k0_pay6 (stAt m c t.val t.isLt).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)
/-- Output 4 is stored at the last point only, and there it is live. -/
theorem idle4 (t : Fin cfg0.N) (h : ¬t.val % 128 = 127) : cfg0.idle 4 (grid0.coords t) = true ∧ (cfg0.win 4).flush t = false := by
  have h2 : ¬cond0_2 (grid0.coords t) := fun h' => h ((hcond0_2 t).mp h')
  by_cases h0 : cond0_0 (grid0.coords t)
  · have h1 : cond0_1 (grid0.coords t) := (hcond0_1 t).mpr (by have := (hcond0_0 t).mp h0; omega)
    exact ⟨idleAt0_4_A t h0 h1 h2, noFlush0_4_A t h0 h1 h2⟩
  · by_cases h1 : cond0_1 (grid0.coords t)
    · exact ⟨idleAt0_4_C t h0 h1 h2, noFlush0_4_C t h0 h1 h2⟩
    · exact ⟨idleAt0_4_B t h0 h1 h2, noFlush0_4_B t h0 h1 h2⟩

theorem live4 (t : Fin cfg0.N) (h : t.val % 128 = 127) : cfg0.idle 4 (grid0.coords t) = false :=
  liveAt0_4_D t (fun h' => by have := (hcond0_0 t).mp h'; omega) (fun h' => by have := (hcond0_1 t).mp h'; omega) ((hcond0_2 t).mpr h)

set_option maxHeartbeats 4000000 in
/-- The body at any point: the inputs' buffers hold their blocks and the carried ones what the point
before left, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have h01 : cond0_0 (grid0.coords t) → cond0_1 (grid0.coords t) := fun h => (hcond0_1 t).mpr (by have := (hcond0_0 t).mp h; omega)
  have h12 : cond0_1 (grid0.coords t) → ¬cond0_2 (grid0.coords t) := fun h h' => by have := (hcond0_1 t).mp h; have := (hcond0_2 t).mp h'; omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h2 : t.val % 128 = 127
  · have hz : t.val ≠ 0 := by omega
    rw [show (dats m 0 c).leavesExact 4 t = owns (c : Thread nD τ) (ms0_4 t) fullShare ((dats m 0 c).after 4 t) from by
      unfold Dat.leavesExact; rw [live4 t h2], after0_4]
    rw [PhiS_castSucc m c t, PhiS_pos m c _ _ hz, stAt_pos m c t hz]
    unfold stOut; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (body_run c (grid0.coords t) _ _ _ _ _ _ _ _ _ _ _ _ _ _ _ _ _ _ _ _ h01 h12 (iblk m c 0 t) (iblk m c 1 t) (iblk m c 2 t) (iblk m c 3 t) _ _ _ _
      (stIn m c t _).1 (fun h => if_pos ((hcond0_0 t).mp h)) (fun h => if_neg fun h' => h ((hcond0_0 t).mpr h'))
      (stIn m c t _).2.1 (fun h => if_pos ((hcond0_1 t).mp h)) (fun h => if_neg fun h' => h ((hcond0_1 t).mpr h'))
      (stIn m c t _).2.2 (fun h => if_pos ((hcond0_1 t).mp h)) (fun h => if_neg fun h' => h ((hcond0_1 t).mpr h'))
      _ (fun _ => rfl) (fun h => absurd ((hcond0_2 t).mpr h2) h) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases hz : t.val = 0
    · skip
      rw [Dat.leavesExact_idle (dats m 0 c) 4 t (idle4 t h2).1 (idle4 t h2).2]
      rw [PhiS_castSucc m c t, PhiS_zero m c _ _ hz, PhiA0_eq, stAt_zero m c t hz (stIn m c t (st0 m c (Nat.zero_lt_of_lt t.isLt)))]
      unfold stOut; dsimp only
      iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩⟩
      iapply (body_run c (grid0.coords t) _ _ _ _ _ _ _ _ _ _ _ _ _ _ _ _ _ _ _ _ h01 h12 (iblk m c 0 t) (iblk m c 1 t) (iblk m c 2 t) (iblk m c 3 t) _ _ _ _
        (stIn m c t _).1 (fun h => if_pos ((hcond0_0 t).mp h)) (fun h => absurd ((hcond0_0 t).mpr (by omega)) h)
        (stIn m c t _).2.1 (fun h => if_pos ((hcond0_1 t).mp h)) (fun h => absurd ((hcond0_1 t).mpr (by omega)) h)
        (stIn m c t _).2.2 (fun h => if_pos ((hcond0_1 t).mp h)) (fun h => absurd ((hcond0_1 t).mpr (by omega)) h)
        _ (fun h => absurd ((hcond0_2 t).mp h) h2) (fun _ => rfl) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexact H5
      iexact H6
    · skip
      rw [Dat.leavesExact_idle (dats m 0 c) 4 t (idle4 t h2).1 (idle4 t h2).2]
      rw [PhiS_castSucc m c t, PhiS_pos m c _ _ hz, stAt_pos m c t hz]
      unfold stOut; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (body_run c (grid0.coords t) _ _ _ _ _ _ _ _ _ _ _ _ _ _ _ _ _ _ _ _ h01 h12 (iblk m c 0 t) (iblk m c 1 t) (iblk m c 2 t) (iblk m c 3 t) _ _ _ _
        (stIn m c t _).1 (fun h => if_pos ((hcond0_0 t).mp h)) (fun h => if_neg fun h' => h ((hcond0_0 t).mpr h'))
        (stIn m c t _).2.1 (fun h => if_pos ((hcond0_1 t).mp h)) (fun h => if_neg fun h' => h ((hcond0_1 t).mpr h'))
        (stIn m c t _).2.2 (fun h => if_pos ((hcond0_1 t).mp h)) (fun h => if_neg fun h' => h ((hcond0_1 t).mpr h'))
        _ (fun h => absurd ((hcond0_2 t).mp h) h2) (fun _ => rfl) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/
-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame, with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))
end Cert.KernelIdeal.Wgrad
-- ==== Proof.Final.lean ====
module

public import proofs.«01_k».proof.Proof.Frame
public import Idealize.ShloMosaic.Lib.Pipeline.Value

/-! The three output arrays after the run, each index at what the point that writes its block back left there. -/

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic
open Idealize.SL Idealize.SL.RA Idealize.SL.Sem

variable {F : FTy → Type} [FloatOps F]
variable (m : (ℓ : Loc nD τ sig) → Buf (Elt F) ℓ) (ρ : Dev nD → PrngReg)

/-- What point `n` leaves in the blocks of the three outputs. -/
def left4 (c : Dev nD) (n : ℕ) (h : n < cfg0.N) : Vec F S320x352 .f32 := k0_pay7 (iblk m c 3 ⟨n, h⟩) (stAt m c n h).1
def left5 (c : Dev nD) (n : ℕ) (h : n < cfg0.N) : Vec F S352x8192 .fp8e5m2 := codesOf (iblk m c 2 ⟨n, h⟩)
def left6 (c : Dev nD) (n : ℕ) (h : n < cfg0.N) : Vec F S352x128 .f32 := k0_pay6 (stAt m c n h).2.2

theorem left4_congr (c : Dev nD) {n n' : ℕ} (e : n = n') {h : n < cfg0.N} {h' : n' < cfg0.N} : left4 m c n h = left4 m c n' h' := by subst e; rfl
theorem left5_congr (c : Dev nD) {n n' : ℕ} (e : n = n') {h : n < cfg0.N} {h' : n' < cfg0.N} : left5 m c n h = left5 m c n' h' := by subst e; rfl
theorem left6_congr (c : Dev nD) {n n' : ℕ} (e : n = n') {h : n < cfg0.N} {h' : n' < cfg0.N} : left6 m c n h = left6 m c n' h' := by subst e; rfl

/-! ## Output window 4 -/

/-- The block of the array that holds index `i`, numbered in the order the points write the blocks back (one every 128 points),
    `i`'s place in it, and the point that writes it back (the last of its 128). -/
abbrev run4Of (i : S320x352.Idx) : ℕ := 1 * ((i 0).val / 320 - 0) + 1 * ((i 1).val / 352 - 0)
set_option backward.proofsInPublic true in
abbrev loc4Of (i : S320x352.Idx) : S320x352.Idx := fun a => match a with
  | ⟨0, _⟩ => ⟨(i 0).val % 320, Nat.mod_lt _ (by decide)⟩
  | ⟨1, _⟩ => ⟨(i 1).val % 352, Nat.mod_lt _ (by decide)⟩
abbrev pt4Of (i : S320x352.Idx) : ℕ := 128 * run4Of i + 127

/-- What the array ends holding.  -/
def G4 (c : Dev nD) : Buf (Elt F) ((c : Thread nD τ).loc main_v6_0) := fun i =>
  if h : pt4Of i < cfg0.N then
    left4 m c (pt4Of i) h (loc4Of i)
  else V m c (Pipeline.arrRef spec0 4) i

/-- The printed index map, decided over the grid: output window 4's block indices stay in the box, and the block number
    read off them is the point's (`t / 128`). -/
theorem idx_facts4 : ∀ t : Fin cfg0.N, 0 ≤ win0_4.index t (0 : Fin 2) ∧ win0_4.index t (0 : Fin 2) ≤ 0
    ∧ 0 ≤ win0_4.index t (1 : Fin 2) ∧ win0_4.index t (1 : Fin 2) ≤ 0
    ∧ 1 * (win0_4.index t (0 : Fin 2) - 0) + 1 * (win0_4.index t (1 : Fin 2) - 0) = t.val / 128 :=
  (by decide +kernel : ∀ t : Fin grid0.N, _)

/-- Every block of the box is some flushing point's: `onto4Pt`, the point that writes back the block at place `q` of the box (the last point of its run). -/
abbrev onto4Pt (q0 : Fin 1) (q1 : Fin 1) : Fin grid0.N :=
  ⟨128 * (1 * q0.val + 1 * q1.val) + 127, lt_of_lt_of_eq (by omega) N_0.symm⟩
theorem idx_onto4 : ∀ (q0 : Fin 1) (q1 : Fin 1), ∃ t : Fin cfg0.N, (cfg0.win 4).flush t = true ∧ win0_4.index t = ![q0.val + 0, q1.val + 0] :=
  fun q0 q1 => ⟨onto4Pt q0 q1, (by decide +kernel : ∀ (q0 : Fin 1) (q1 : Fin 1), win0_4.flush (onto4Pt q0 q1) = true ∧ win0_4.index (onto4Pt q0 q1) = ![q0.val + 0, q1.val + 0]) q0 q1⟩

/-- A point that writes back writes its block of the final array. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4]
  have hm : t.val % 128 = 127 := (flush0_4 t).mp hf
  obtain ⟨e0, e1, e2⟩ := idx_facts4 t
  funext y
  have hy0 : (y 0).val < 320 := (y 0).isLt
  have hy1 : (y 1).val < 352 := (y 1).isLt
  have hb0 : (((cfg0.win 4).blk t).view.emb y 0).val = win0_4.index t (0 : Fin 2) * 320 + 1 * (y 0).val := rfl
  have hb1 : (((cfg0.win 4).blk t).view.emb y 1).val = win0_4.index t (1 : Fin 2) * 352 + 1 * (y 1).val := rfl
  have hr : run4Of (((cfg0.win 4).blk t).view.emb y) = t.val / 128 := by
    show 1 * ((((cfg0.win 4).blk t).view.emb y 0).val / 320 - 0) + 1 * ((((cfg0.win 4).blk t).view.emb y 1).val / 352 - 0) = _
    rw [hb0, hb1]
    rw [show (win0_4.index t (0 : Fin 2) * 320 + 1 * (y 0).val) / 320 = win0_4.index t (0 : Fin 2) from by omega]; rw [show (win0_4.index t (1 : Fin 2) * 352 + 1 * (y 1).val) / 352 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 320 = (y 0).val; rw [hb0]; omega
    | ⟨1, _⟩ => show (((cfg0.win 4).blk t).view.emb y 1).val % 352 = (y 1).val; rw [hb1]; omega
  have hp : pt4Of (((cfg0.win 4).blk t).view.emb y) = t.val := by
    show 128 * run4Of (((cfg0.win 4).blk t).view.emb y) + 127 = _
    rw [hr]; have := Nat.div_add_mod t.val 128; omega
  show left4 m c t.val t.isLt ((cfg0.win 4).xinj (grid0.coords t) y) = G4 m c (((cfg0.win 4).blk t).view.emb y)
  unfold G4
  rw [dif_pos (by rw [hp]; exact t.isLt), hl, left4_congr m c hp.symm]

/-- An index of the array is in point `t`'s block iff each coordinate is in the block's range on its axis. -/
theorem mem_blk4 (t : Fin cfg0.N) (i : S320x352.Idx) :
    i ∈ ((cfg0.win 4).blk t).view.set ↔ ∀ a : Fin 2, win0_4.index t a * S320x352.size a ≤ (i a).val ∧ (i a).val < win0_4.index t a * S320x352.size a + S320x352.size a := by
  show i ∈ ((View.whole main_v6_0).slice (win0_4.rect t)).set ↔ _
  rw [View.set_slice_whole, Rect.mem_set_unit]
  exact Iff.rfl

/-- In some flushing point's block iff inside the box those blocks fill. -/
theorem covered_iff4 (i : S320x352.Idx) :
    (∃ t : Fin cfg0.N, (cfg0.win 4).flush t = true ∧ i ∈ ((cfg0.win 4).blk t).view.set) ↔ 0 ≤ (i 0).val ∧ (i 0).val < 320 ∧ 0 ≤ (i 1).val ∧ (i 1).val < 352 := by
  constructor
  · rintro ⟨t, -, hi⟩
    rw [mem_blk4] at hi
    have b0 : win0_4.index t (0 : Fin 2) * 320 ≤ (i 0).val ∧ (i 0).val < win0_4.index t (0 : Fin 2) * 320 + 320 := hi 0
    have b1 : win0_4.index t (1 : Fin 2) * 352 ≤ (i 1).val ∧ (i 1).val < win0_4.index t (1 : Fin 2) * 352 + 352 := hi 1
    obtain ⟨e0, e1, e2⟩ := idx_facts4 t
    omega
  · intro h
    have hi0 : (i 0).val < 320 := (i 0).isLt
    have hi1 : (i 1).val < 352 := (i 1).isLt
    obtain ⟨t, hft, ht⟩ := idx_onto4 ⟨(i 0).val / 320 - 0, by omega⟩ ⟨(i 1).val / 352 - 0, by omega⟩
    have q0 : win0_4.index t (0 : Fin 2) = (i 0).val / 320 - 0 + 0 := congrFun ht 0
    have q1 : win0_4.index t (1 : Fin 2) = (i 1).val / 352 - 0 + 0 := congrFun ht 1
    refine ⟨t, hft, ?_⟩
    rw [mem_blk4]
    intro a
    match a with
    | ⟨0, _⟩ => show win0_4.index t (0 : Fin 2) * 320 ≤ (i 0).val ∧ (i 0).val < win0_4.index t (0 : Fin 2) * 320 + 320; omega
    | ⟨1, _⟩ => show win0_4.index t (1 : Fin 2) * 352 ≤ (i 1).val ∧ (i 1).val < win0_4.index t (1 : Fin 2) * 352 + 352; omega

/-- The array after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 320 := (i 0).isLt; have h1 : (i 1).val < 352 := (i 1).isLt; omega))

/-! ## Output window 5 -/

/-- The block of the array that holds index `i`, numbered in the order the points write the blocks back (one per point),
    `i`'s place in it, and the point that writes it back. -/
abbrev run5Of (i : S704x524288.Idx) : ℕ := 64 * ((i 0).val / 352 - 0) + 1 * ((i 1).val / 8192 - 0)
set_option backward.proofsInPublic true in
abbrev loc5Of (i : S704x524288.Idx) : S352x8192.Idx := fun a => match a with
  | ⟨0, _⟩ => ⟨(i 0).val % 352, Nat.mod_lt _ (by decide)⟩
  | ⟨1, _⟩ => ⟨(i 1).val % 8192, Nat.mod_lt _ (by decide)⟩
abbrev pt5Of (i : S704x524288.Idx) : ℕ := run5Of i

/-- What the array ends holding.  -/
def G5 (c : Dev nD) : Buf (Elt F) ((c : Thread nD τ).loc main_v6_1) := fun i =>
  if h : pt5Of i < cfg0.N then
    left5 m c (pt5Of i) h (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 1
    ∧ 0 ≤ win0_5.index t (1 : Fin 2) ∧ win0_5.index t (1 : Fin 2) ≤ 63
    ∧ 64 * (win0_5.index t (0 : Fin 2) - 0) + 1 * (win0_5.index t (1 : Fin 2) - 0) = t.val :=
  (by decide +kernel : ∀ t : Fin grid0.N, _)

/-- Every block of the box is some flushing point's: `onto5Pt`, the point that writes back the block at place `q` of the box. -/
abbrev onto5Pt (q0 : Fin 2) (q1 : Fin 64) : Fin grid0.N :=
  ⟨64 * q0.val + 1 * q1.val, lt_of_lt_of_eq (by omega) N_0.symm⟩
theorem idx_onto5 : ∀ (q0 : Fin 2) (q1 : Fin 64), ∃ t : Fin cfg0.N, (cfg0.win 5).flush t = true ∧ win0_5.index t = ![q0.val + 0, q1.val + 0] :=
  fun q0 q1 => ⟨onto5Pt q0 q1, (by decide +kernel : ∀ (q0 : Fin 2) (q1 : Fin 64), win0_5.flush (onto5Pt q0 q1) = true ∧ win0_5.index (onto5Pt q0 q1) = ![q0.val + 0, q1.val + 0]) q0 q1⟩

/-- A point that writes back writes its block of the final array. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5]
  obtain ⟨e0, e1, e2⟩ := idx_facts5 t
  funext y
  have hy0 : (y 0).val < 352 := (y 0).isLt
  have hy1 : (y 1).val < 8192 := (y 1).isLt
  have hb0 : (((cfg0.win 5).blk t).view.emb y 0).val = win0_5.index t (0 : Fin 2) * 352 + 1 * (y 0).val := rfl
  have hb1 : (((cfg0.win 5).blk t).view.emb y 1).val = win0_5.index t (1 : Fin 2) * 8192 + 1 * (y 1).val := rfl
  have hr : run5Of (((cfg0.win 5).blk t).view.emb y) = t.val := by
    show 64 * ((((cfg0.win 5).blk t).view.emb y 0).val / 352 - 0) + 1 * ((((cfg0.win 5).blk t).view.emb y 1).val / 8192 - 0) = _
    rw [hb0, hb1]
    rw [show (win0_5.index t (0 : Fin 2) * 352 + 1 * (y 0).val) / 352 = win0_5.index t (0 : Fin 2) from by omega]; rw [show (win0_5.index t (1 : Fin 2) * 8192 + 1 * (y 1).val) / 8192 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 352 = (y 0).val; rw [hb0]; omega
    | ⟨1, _⟩ => show (((cfg0.win 5).blk t).view.emb y 1).val % 8192 = (y 1).val; rw [hb1]; omega
  have hp : pt5Of (((cfg0.win 5).blk t).view.emb y) = t.val := by
    exact hr
  show left5 m c t.val t.isLt ((cfg0.win 5).xinj (grid0.coords t) y) = G5 m c (((cfg0.win 5).blk t).view.emb y)
  unfold G5
  rw [dif_pos (by rw [hp]; exact t.isLt), hl, left5_congr m c hp.symm]

/-- An index of the array is in point `t`'s block iff each coordinate is in the block's range on its axis. -/
theorem mem_blk5 (t : Fin cfg0.N) (i : S704x524288.Idx) :
    i ∈ ((cfg0.win 5).blk t).view.set ↔ ∀ a : Fin 2, win0_5.index t a * S352x8192.size a ≤ (i a).val ∧ (i a).val < win0_5.index t a * S352x8192.size a + S352x8192.size a := by
  show i ∈ ((View.whole main_v6_1).slice (win0_5.rect t)).set ↔ _
  rw [View.set_slice_whole, Rect.mem_set_unit]
  exact Iff.rfl

/-- In some flushing point's block iff inside the box those blocks fill. -/
theorem covered_iff5 (i : S704x524288.Idx) :
    (∃ t : Fin cfg0.N, (cfg0.win 5).flush t = true ∧ i ∈ ((cfg0.win 5).blk t).view.set) ↔ 0 ≤ (i 0).val ∧ (i 0).val < 704 ∧ 0 ≤ (i 1).val ∧ (i 1).val < 524288 := by
  constructor
  · rintro ⟨t, -, hi⟩
    rw [mem_blk5] at hi
    have b0 : win0_5.index t (0 : Fin 2) * 352 ≤ (i 0).val ∧ (i 0).val < win0_5.index t (0 : Fin 2) * 352 + 352 := hi 0
    have b1 : win0_5.index t (1 : Fin 2) * 8192 ≤ (i 1).val ∧ (i 1).val < win0_5.index t (1 : Fin 2) * 8192 + 8192 := hi 1
    obtain ⟨e0, e1, e2⟩ := idx_facts5 t
    omega
  · intro h
    have hi0 : (i 0).val < 704 := (i 0).isLt
    have hi1 : (i 1).val < 524288 := (i 1).isLt
    obtain ⟨t, hft, ht⟩ := idx_onto5 ⟨(i 0).val / 352 - 0, by omega⟩ ⟨(i 1).val / 8192 - 0, by omega⟩
    have q0 : win0_5.index t (0 : Fin 2) = (i 0).val / 352 - 0 + 0 := congrFun ht 0
    have q1 : win0_5.index t (1 : Fin 2) = (i 1).val / 8192 - 0 + 0 := congrFun ht 1
    refine ⟨t, hft, ?_⟩
    rw [mem_blk5]
    intro a
    match a with
    | ⟨0, _⟩ => show win0_5.index t (0 : Fin 2) * 352 ≤ (i 0).val ∧ (i 0).val < win0_5.index t (0 : Fin 2) * 352 + 352; omega
    | ⟨1, _⟩ => show win0_5.index t (1 : Fin 2) * 8192 ≤ (i 1).val ∧ (i 1).val < win0_5.index t (1 : Fin 2) * 8192 + 8192; omega

/-- The array after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 704 := (i 0).isLt; have h1 : (i 1).val < 524288 := (i 1).isLt; omega))

/-! ## Output window 6 -/

/-- The block of the array that holds index `i`, numbered in the order the points write the blocks back (one every 2 points),
    `i`'s place in it, and the point that writes it back (the last of its 2). -/
abbrev run6Of (i : S704x4096.Idx) : ℕ := 32 * ((i 0).val / 352 - 0) + 1 * ((i 1).val / 128 - 0)
set_option backward.proofsInPublic true in
abbrev loc6Of (i : S704x4096.Idx) : S352x128.Idx := fun a => match a with
  | ⟨0, _⟩ => ⟨(i 0).val % 352, Nat.mod_lt _ (by decide)⟩
  | ⟨1, _⟩ => ⟨(i 1).val % 128, Nat.mod_lt _ (by decide)⟩
abbrev pt6Of (i : S704x4096.Idx) : ℕ := 2 * run6Of i + 1

/-- What the array ends holding.  -/
def G6 (c : Dev nD) : Buf (Elt F) ((c : Thread nD τ).loc main_v6_2) := fun i =>
  if h : pt6Of i < cfg0.N then
    left6 m c (pt6Of i) h (loc6Of i)
  else V m c (Pipeline.arrRef spec0 6) i

/-- The printed index map, decided over the grid: output window 6's block indices stay in the box, and the block number
    read off them is the point's (`t / 2`). -/
theorem idx_facts6 : ∀ t : Fin cfg0.N, 0 ≤ win0_6.index t (0 : Fin 2) ∧ win0_6.index t (0 : Fin 2) ≤ 1
    ∧ 0 ≤ win0_6.index t (1 : Fin 2) ∧ win0_6.index t (1 : Fin 2) ≤ 31
    ∧ 32 * (win0_6.index t (0 : Fin 2) - 0) + 1 * (win0_6.index t (1 : Fin 2) - 0) = t.val / 2 :=
  (by decide +kernel : ∀ t : Fin grid0.N, _)

/-- Every block of the box is some flushing point's: `onto6Pt`, the point that writes back the block at place `q` of the box (the last point of its run). -/
abbrev onto6Pt (q0 : Fin 2) (q1 : Fin 32) : Fin grid0.N :=
  ⟨2 * (32 * q0.val + 1 * q1.val) + 1, lt_of_lt_of_eq (by omega) N_0.symm⟩
theorem idx_onto6 : ∀ (q0 : Fin 2) (q1 : Fin 32), ∃ t : Fin cfg0.N, (cfg0.win 6).flush t = true ∧ win0_6.index t = ![q0.val + 0, q1.val + 0] :=
  fun q0 q1 => ⟨onto6Pt q0 q1, (by decide +kernel : ∀ (q0 : Fin 2) (q1 : Fin 32), win0_6.flush (onto6Pt q0 q1) = true ∧ win0_6.index (onto6Pt q0 q1) = ![q0.val + 0, q1.val + 0]) q0 q1⟩

/-- A point that writes back writes its block of the final array. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  have hm : t.val % 2 = 1 := (flush0_6 t).mp hf
  obtain ⟨e0, e1, e2⟩ := idx_facts6 t
  funext y
  have hy0 : (y 0).val < 352 := (y 0).isLt
  have hy1 : (y 1).val < 128 := (y 1).isLt
  have hb0 : (((cfg0.win 6).blk t).view.emb y 0).val = win0_6.index t (0 : Fin 2) * 352 + 1 * (y 0).val := rfl
  have hb1 : (((cfg0.win 6).blk t).view.emb y 1).val = win0_6.index t (1 : Fin 2) * 128 + 1 * (y 1).val := rfl
  have hr : run6Of (((cfg0.win 6).blk t).view.emb y) = t.val / 2 := by
    show 32 * ((((cfg0.win 6).blk t).view.emb y 0).val / 352 - 0) + 1 * ((((cfg0.win 6).blk t).view.emb y 1).val / 128 - 0) = _
    rw [hb0, hb1]
    rw [show (win0_6.index t (0 : Fin 2) * 352 + 1 * (y 0).val) / 352 = win0_6.index t (0 : Fin 2) from by omega]; rw [show (win0_6.index t (1 : Fin 2) * 128 + 1 * (y 1).val) / 128 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 352 = (y 0).val; rw [hb0]; omega
    | ⟨1, _⟩ => show (((cfg0.win 6).blk t).view.emb y 1).val % 128 = (y 1).val; rw [hb1]; omega
  have hp : pt6Of (((cfg0.win 6).blk t).view.emb y) = t.val := by
    show 2 * run6Of (((cfg0.win 6).blk t).view.emb y) + 1 = _
    rw [hr]; have := Nat.div_add_mod t.val 2; omega
  show left6 m c t.val t.isLt ((cfg0.win 6).xinj (grid0.coords t) y) = G6 m c (((cfg0.win 6).blk t).view.emb y)
  unfold G6
  rw [dif_pos (by rw [hp]; exact t.isLt), hl, left6_congr m c hp.symm]

/-- An index of the array is in point `t`'s block iff each coordinate is in the block's range on its axis. -/
theorem mem_blk6 (t : Fin cfg0.N) (i : S704x4096.Idx) :
    i ∈ ((cfg0.win 6).blk t).view.set ↔ ∀ a : Fin 2, win0_6.index t a * S352x128.size a ≤ (i a).val ∧ (i a).val < win0_6.index t a * S352x128.size a + S352x128.size a := by
  show i ∈ ((View.whole main_v6_2).slice (win0_6.rect t)).set ↔ _
  rw [View.set_slice_whole, Rect.mem_set_unit]
  exact Iff.rfl

/-- In some flushing point's block iff inside the box those blocks fill. -/
theorem covered_iff6 (i : S704x4096.Idx) :
    (∃ t : Fin cfg0.N, (cfg0.win 6).flush t = true ∧ i ∈ ((cfg0.win 6).blk t).view.set) ↔ 0 ≤ (i 0).val ∧ (i 0).val < 704 ∧ 0 ≤ (i 1).val ∧ (i 1).val < 4096 := by
  constructor
  · rintro ⟨t, -, hi⟩
    rw [mem_blk6] at hi
    have b0 : win0_6.index t (0 : Fin 2) * 352 ≤ (i 0).val ∧ (i 0).val < win0_6.index t (0 : Fin 2) * 352 + 352 := hi 0
    have b1 : win0_6.index t (1 : Fin 2) * 128 ≤ (i 1).val ∧ (i 1).val < win0_6.index t (1 : Fin 2) * 128 + 128 := hi 1
    obtain ⟨e0, e1, e2⟩ := idx_facts6 t
    omega
  · intro h
    have hi0 : (i 0).val < 704 := (i 0).isLt
    have hi1 : (i 1).val < 4096 := (i 1).isLt
    obtain ⟨t, hft, ht⟩ := idx_onto6 ⟨(i 0).val / 352 - 0, by omega⟩ ⟨(i 1).val / 128 - 0, by omega⟩
    have q0 : win0_6.index t (0 : Fin 2) = (i 0).val / 352 - 0 + 0 := congrFun ht 0
    have q1 : win0_6.index t (1 : Fin 2) = (i 1).val / 128 - 0 + 0 := congrFun ht 1
    refine ⟨t, hft, ?_⟩
    rw [mem_blk6]
    intro a
    match a with
    | ⟨0, _⟩ => show win0_6.index t (0 : Fin 2) * 352 ≤ (i 0).val ∧ (i 0).val < win0_6.index t (0 : Fin 2) * 352 + 352; omega
    | ⟨1, _⟩ => show win0_6.index t (1 : Fin 2) * 128 ≤ (i 1).val ∧ (i 1).val < win0_6.index t (1 : Fin 2) * 128 + 128; omega

/-- The array after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 704 := (i 0).isLt; have h1 : (i 1).val < 4096 := (i 1).isLt; omega))

/-! ## The run, read -/

end Cert.KernelIdeal.Wgrad
-- ==== Proof.Edges.lean ====
module

public import proofs.«01_k».proof.Proof.Final
public import Idealize.ShloMosaic.Lib.Pointwise

/-! What the region finds and what the program returns: the blocks of the inputs in terms of the arguments, and
the results in terms of the arrays the region leaves. -/

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic
open Idealize.SL Idealize.SL.RA Idealize.SL.Sem Idealize.ShloMosaic.StableHlo

variable {F : FTy → Type} [FloatOps F]
variable (m : (ℓ : Loc nD τ sig) → Buf (Elt F) ℓ) (ρ : Dev nD → PrngReg)

/-- The arguments as arrays. -/
abbrev argX (c : Dev nD) : Vec F S2x524288x320 .fp8e4m3 := m ((c : Thread nD τ).loc main_arg0)
abbrev argXs (c : Dev nD) : Vec F S2x4096x320 .f32 := m ((c : Thread nD τ).loc main_arg1)
abbrev argDy (c : Dev nD) : Vec F S2x524288x352 .bf16 := m ((c : Thread nD τ).loc main_arg2)
abbrev argMg (c : Dev nD) : Vec F S320x352 .f32 := m ((c : Thread nD τ).loc main_arg3)

theorem V_main_v1 (c : Dev nD) : V m c main_v1 = shapeCast S640x524288
    (transpose S2x320x524288 [0, 2, 1] (argX m c) transposes_S2x524288x320_S2x320x524288_0_2_1) shapeCasts_S2x320x524288_S640x524288 := by
  unfold_abbrev_sides
  after_results
  rfl
theorem V_main_v3 (c : Dev nD) : V m c main_v3 = shapeCast S640x4096
    (transpose S2x320x4096 [0, 2, 1] (argXs m c) transposes_S2x4096x320_S2x320x4096_0_2_1) shapeCasts_S2x320x4096_S640x4096 := by
  unfold_abbrev_sides
  after_results
  rfl
theorem V_main_v5 (c : Dev nD) : V m c main_v5 = shapeCast S704x524288
    (transpose S2x352x524288 [0, 2, 1] (argDy m c) transposes_S2x524288x352_S2x352x524288_0_2_1) shapeCasts_S2x352x524288_S704x524288 := by
  unfold_abbrev_sides
  after_results
  rfl

theorem N_eq : cfg0.N = 128 := N_0

theorem idx0 : ∀ t : Fin cfg0.N, win0_0.index t = ![t.val / 64, t.val % 64] := (by decide +kernel : ∀ t : Fin grid0.N, _)
theorem idx1 : ∀ t : Fin cfg0.N, win0_1.index t = ![t.val / 64, t.val % 64 / 2] := (by decide +kernel : ∀ t : Fin grid0.N, _)
theorem idx2 : ∀ t : Fin cfg0.N, win0_2.index t = ![t.val / 64, t.val % 64] := (by decide +kernel : ∀ t : Fin grid0.N, _)

theorem v1_apply (c : Dev nD) (b : Fin 2) (a : Fin 320) (T : Fin 524288) :
    V m c main_v1 (ix2 ⟨320 * b.val + a.val, by omega⟩ T) = argX m c (ix3 b T a) := by
  rw [V_main_v1]
  pointwise

theorem iblk0_apply (c : Dev nD) (t : Fin cfg0.N) (a : Fin 320) (s : Fin 8192) (b : Fin 2) (T : Fin 524288)
    (hb : b.val = t.val / 64) (hT : T.val = 8192 * (t.val % 64) + s.val) :
    iblk m c 0 t (ix2 a s) = argX m c (ix3 b T a) := by
  rw [← v1_apply]
  show V m c main_v1 (((cfg0.win 0).blk t).view.emb (ix2 a s)) = _
  congr 1
  have e := idx0 t
  funext d; apply Fin.ext
  match d with
  | ⟨0, _⟩ =>
    show win0_0.index t (0 : Fin 2) * 320 + 1 * a.val = 320 * b.val + a.val
    rw [e]; show t.val / 64 * 320 + _ = _; omega
  | ⟨1, _⟩ =>
    show win0_0.index t (1 : Fin 2) * 8192 + 1 * s.val = T.val
    rw [e]; show t.val % 64 * 8192 + _ = _; omega

theorem v3_apply (c : Dev nD) (b : Fin 2) (a : Fin 320) (n : Fin 4096) :
    V m c main_v3 (ix2 ⟨320 * b.val + a.val, by omega⟩ n) = argXs m c (ix3 b n a) := by
  rw [V_main_v3]
  pointwise

theorem iblk1_apply (c : Dev nD) (t : Fin cfg0.N) (a : Fin 320) (l : Fin 128) (b : Fin 2) (n : Fin 4096)
    (hb : b.val = t.val / 64) (hn : n.val = 128 * (t.val % 64 / 2) + l.val) :
    iblk m c 1 t (ix2 a l) = argXs m c (ix3 b n a) := by
  rw [← v3_apply]
  show V m c main_v3 (((cfg0.win 1).blk t).view.emb (ix2 a l)) = _
  congr 1
  have e := idx1 t
  funext d; apply Fin.ext
  match d with
  | ⟨0, _⟩ =>
    show win0_1.index t (0 : Fin 2) * 320 + 1 * a.val = 320 * b.val + a.val
    rw [e]; show t.val / 64 * 320 + _ = _; omega
  | ⟨1, _⟩ =>
    show win0_1.index t (1 : Fin 2) * 128 + 1 * l.val = n.val
    rw [e]; show t.val % 64 / 2 * 128 + _ = _; omega

theorem v5_apply (c : Dev nD) (b : Fin 2) (o : Fin 352) (T : Fin 524288) :
    V m c main_v5 (ix2 ⟨352 * b.val + o.val, by omega⟩ T) = argDy m c (ix3 b T o) := by
  rw [V_main_v5]
  pointwise

theorem iblk2_apply (c : Dev nD) (t : Fin cfg0.N) (o : Fin 352) (s : Fin 8192) (b : Fin 2) (T : Fin 524288)
    (hb : b.val = t.val / 64) (hT : T.val = 8192 * (t.val % 64) + s.val) :
    iblk m c 2 t (ix2 o s) = argDy m c (ix3 b T o) := by
  rw [← v5_apply]
  show V m c main_v5 (((cfg0.win 2).blk t).view.emb (ix2 o s)) = _
  congr 1
  have e := idx2 t
  funext d; apply Fin.ext
  match d with
  | ⟨0, _⟩ =>
    show win0_2.index t (0 : Fin 2) * 352 + 1 * o.val = 352 * b.val + o.val
    rw [e]; show t.val / 64 * 352 + _ = _; omega
  | ⟨1, _⟩ =>
    show win0_2.index t (1 : Fin 2) * 8192 + 1 * s.val = T.val
    rw [e]; show t.val % 64 * 8192 + _ = _; omega

theorem idx3 : ∀ t : Fin cfg0.N, win0_3.index t = ![0, 0] := (by decide +kernel : ∀ t : Fin grid0.N, _)

theorem iblk3_apply (c : Dev nD) (t : Fin cfg0.N) (a : Fin 320) (o : Fin 352) :
    iblk m c 3 t (ix2 a o) = argMg m c (ix2 a o) := by
  rw [show argMg m c = V m c main_arg3 from (V_main_arg3 m c).symm]
  show V m c main_arg3 (((cfg0.win 3).blk t).view.emb (ix2 a o)) = _
  congr 1
  have e := idx3 t
  funext d; apply Fin.ext
  match d with
  | ⟨0, _⟩ =>
    show win0_3.index t (0 : Fin 2) * 320 + 1 * a.val = a.val
    rw [e]; show 0 * 320 + _ = _; omega
  | ⟨1, _⟩ =>
    show win0_3.index t (1 : Fin 2) * 352 + 1 * o.val = o.val
    rw [e]; show 0 * 352 + _ = _; omega

/-- The results the program returns, from the arrays the region leaves. -/
theorem results : θ_run defs (onTc (τ := τ) (main (F := F))) ⟨m, fun _ => 0, ρ⟩ fun r => ∀ c : Dev nD,
      r.2.mem ((c : Thread nD τ).loc main_v6_0) = G4 m c
      ∧ r.2.mem ((c : Thread nD τ).loc main_v8) = transpose S2x524288x352 [0, 2, 1]
          (shapeCast S2x352x524288 (G5 m c) shapeCasts_S704x524288_S2x352x524288) transposes_S2x352x524288_S2x524288x352_0_2_1
      ∧ r.2.mem ((c : Thread nD τ).loc main_v10) = transpose S2x4096x352 [0, 2, 1]
          (shapeCast S2x352x4096 (G6 m c) shapeCasts_S704x4096_S2x352x4096) transposes_S2x352x4096_S2x4096x352_0_2_1 :=
  (θ_run defs _ _).mono (fun r h c => ⟨((h c).1 4).trans (final4 m c),
      ((h c).2 main_v8 (Pipeline.mem_restRefs_of main_v8 (by decide) (by decide))).trans (by
        unfold Pipeline.afterTail₀
        simp only [List.flatten_cons, List.flatten_nil, List.append_nil]
        after_results
        exact congrArg (fun A : Vec F S704x524288 .fp8e5m2 => transpose S2x524288x352 [0, 2, 1]
          (shapeCast S2x352x524288 A shapeCasts_S704x524288_S2x352x524288) transposes_S2x352x524288_S2x524288x352_0_2_1)
          ((Pipeline.withArrays_arr spec0 (by decide) c (V0 m c) (fun w => (dats m 0 c).arrAt w cfg0.N) 5).trans (final5 m c))),
      ((h c).2 main_v10 (Pipeline.mem_restRefs_of main_v10 (by decide) (by decide))).trans (by
        unfold Pipeline.afterTail₀
        simp only [List.flatten_cons, List.flatten_nil, List.append_nil]
        after_results
        exact congrArg (fun A : Vec F S704x4096 .f32 => transpose S2x4096x352 [0, 2, 1]
          (shapeCast S2x352x4096 A shapeCasts_S704x4096_S2x352x4096) transposes_S2x352x4096_S2x4096x352_0_2_1)
          ((Pipeline.withArrays_arr spec0 (by decide) c (V0 m c) (fun w => (dats m 0 c).arrAt w cfg0.N) 6).trans (final6 m c)))⟩)
    (run_main m ρ)

end Cert.KernelIdeal.Wgrad
-- ==== Proof.Scale.lean ====
module

public import Idealize.ShloMosaic.Lib.IdealHost

/-! The power-of-two scale of a block from its greatest magnitude: the search over bf16 exponent
fields finds the least power of two above the magnitude divided by the format's greatest value. -/

@[expose] public section
noncomputable section
namespace Cert.Scale
open Idealize.ShloMosaic

/-- The threshold of step `n`. -/
def thr (n : ℕ) : ℝ := (7 / 4) * (2 : ℝ) ^ ((n : ℤ) - 111)

/-- What a bf16 pattern with exponent field `e` and significand `f` denotes. -/
theorem ofBits_bf16 (e f : ℕ) (he : 0 < e) (he' : e < 255) (hf : f < 128) :
    Ideal.ofBits .bf16 (BitVec.ofNat 16 (128 * e + f)) = (((128 + f : ℕ) * (2 : ℝ) ^ ((e : ℤ) - 134) : ℝ) : EReal) := by
  have h0 : ((BitVec.ofNat 16 (128 * e + f)).extractLsb' (8 + 7) 1 == 1#1) = false := by
    have : (BitVec.ofNat 16 (128 * e + f)).extractLsb' (8 + 7) 1 = 0#1 := by
      apply BitVec.eq_of_toNat_eq; simp [BitVec.extractLsb'_toNat, Nat.shiftRight_eq_div_pow]; omega
    rw [this]; rfl
  have h1 : ((BitVec.ofNat 16 (128 * e + f)).extractLsb' 7 8).toNat = e := by
    simp [BitVec.extractLsb'_toNat, Nat.shiftRight_eq_div_pow]; omega
  have h2 : ((BitVec.ofNat 16 (128 * e + f)).extractLsb' 0 7).toNat = f := by
    simp [BitVec.extractLsb'_toNat]; omega
  show Ideal.ieee 8 7 _ = _
  unfold Ideal.ieee
  dsimp only
  rw [h0, h1, h2, if_neg (by norm_num; omega), if_neg (by omega)]
  norm_num [show (e : ℤ) - 127 - 7 = (e : ℤ) - 134 by ring]

theorem ofBits_thr (n : ℕ) (hn : n ≤ 238) : Ideal.ofBits .bf16 (BitVec.ofNat 16 (128 * n + 2144)) = ((thr n : ℝ) : EReal) := by
  rw [show 128 * n + 2144 = 128 * (n + 16) + 96 by ring, ofBits_bf16 _ _ (by omega) (by omega) (by omega), thr]
  congr 1
  rw [show (((n + 16 : ℕ) : ℤ) - 134) = ((n : ℤ) - 111) + (-7) by push_cast; ring, zpow_add₀ (by norm_num)]
  norm_num; ring

theorem ofBits_pow (n : ℕ) (h0 : 0 < n) (hn : n < 255) :
    Ideal.ofBits .bf16 (BitVec.ofNat 16 (128 * n)) = (((2 : ℝ) ^ ((n : ℤ) - 127) : ℝ) : EReal) := by
  have := ofBits_bf16 n 0 h0 hn (by norm_num)
  rw [Nat.add_zero] at this
  rw [this]
  congr 1
  rw [show ((n : ℤ) - 127) = ((n : ℤ) - 134) + 7 by ring, zpow_add₀ (by norm_num)]
  norm_num; ring

theorem thr_mono {a b : ℕ} (h : a ≤ b) : thr a ≤ thr b := by
  unfold thr
  exact mul_le_mul_of_nonneg_left (zpow_le_zpow_right₀ (by norm_num) (by omega)) (by norm_num)

/-- One step of the search on exponent fields. -/
def step (a : EReal) (d f : BitVec 16) : BitVec 16 :=
  if Ideal.ofBits .bf16 (f + d + 2144#16) ≤ a then f + d else f

/-- The exponent field found. -/
def fld (a : EReal) : BitVec 16 :=
  step a 128#16 (step a 256#16 (step a 512#16 (step a 896#16 (step a 1920#16 (step a 3840#16
    (step a 7680#16 (step a 15232#16 0#16)))))))

/-- The scale's bits. -/
def bits (a : EReal) : BitVec 16 :=
  (if Ideal.ofBits .bf16 0x0860#16 ≤ a ∧ a ≤ Ideal.ofBits .bf16 0x7F7F#16 then fld a else 16000#16) + 256#16

/-- The scale the kernel takes for the magnitude `a`. -/
def kScale (a : EReal) : EReal := Ideal.ofBits .bf16 (bits a)
/-- Its reciprocal, as the kernel takes it. -/
def kInv (a : EReal) : EReal := Ideal.ofBits .bf16 (32512#16 - bits a)

/-- The search's state: the answer lies in `[n, n + r]`. -/
def Found (a : EReal) (r : ℕ) (f : BitVec 16) : Prop :=
  ∃ n : ℕ, f = BitVec.ofNat 16 (128 * n) ∧ n + r ≤ 238 ∧ (n = 0 ∨ ((thr n : ℝ) : EReal) ≤ a) ∧
    ∀ k, n + r < k → k ≤ 238 → a < ((thr k : ℝ) : EReal)

theorem Found.step {a : EReal} {r : ℕ} {f : BitVec 16} (h : Found a r f) (d r' : ℕ) (hr : r = r' + d)
    (h2 : d ≤ r' + 1) : Found a r' (Scale.step a (BitVec.ofNat 16 (128 * d)) f) := by
  obtain ⟨n, rfl, hn, hlo, hhi⟩ := h
  have hadd : BitVec.ofNat 16 (128 * n) + BitVec.ofNat 16 (128 * d) = BitVec.ofNat 16 (128 * (n + d)) := by
    rw [← BitVec.ofNat_add]; congr 1; ring
  have hthr : Ideal.ofBits .bf16 (BitVec.ofNat 16 (128 * (n + d)) + 2144#16) = ((thr (n + d) : ℝ) : EReal) := by
    rw [← ofBits_thr (n + d) (by omega)]; congr 1; rw [BitVec.ofNat_add]
  unfold Scale.step
  rw [hadd, hthr]
  split_ifs with hc
  · exact ⟨n + d, rfl, by omega, .inr hc, fun k hk hk' => hhi k (by omega) hk'⟩
  · refine ⟨n, rfl, by omega, hlo, fun k hk hk' => ?_⟩
    exact lt_of_lt_of_le (not_le.1 hc) (EReal.coe_le_coe_iff.2 (thr_mono (by omega)))

theorem found (a : EReal) : Found a 0 (fld a) := by
  have h0 : Found a 238 0#16 := ⟨0, rfl, by omega, .inl rfl, fun k hk hk' => by omega⟩
  exact ((((((((h0.step 119 119 rfl (by omega)).step 60 59 rfl (by omega)).step 30 29 rfl (by omega)).step 15 14 rfl
    (by omega)).step 7 7 rfl (by omega)).step 4 3 rfl (by omega)).step 2 1 rfl (by omega)).step 1 0 rfl (by omega))

/-- The covered range: magnitudes with a scale of their own. -/
def Normal (a : EReal) : Prop := ((thr 0 : ℝ) : EReal) ≤ a ∧ a ≤ ((255 * (2 : ℝ) ^ (120 : ℤ) : ℝ) : EReal)

theorem normal_bits (a : EReal) :
    (Ideal.ofBits .bf16 0x0860#16 ≤ a ∧ a ≤ Ideal.ofBits .bf16 0x7F7F#16) ↔ Normal a := by
  have h1 : Ideal.ofBits .bf16 0x0860#16 = ((thr 0 : ℝ) : EReal) := ofBits_thr 0 (by omega)
  have h2 : Ideal.ofBits .bf16 0x7F7F#16 = ((255 * (2 : ℝ) ^ (120 : ℤ) : ℝ) : EReal) := by
    have := ofBits_bf16 254 127 (by omega) (by omega) (by omega)
    rw [show BitVec.ofNat 16 (128 * 254 + 127) = 0x7F7F#16 from rfl] at this
    rw [this]; norm_num
  rw [h1, h2, Normal]

/-- Inside the range the scale is the least power of two above `a / 57344`; outside it is one. -/
theorem kScale_spec (a : EReal) :
    (Normal a ∧ ∃ n : ℕ, n ≤ 238 ∧ ((thr n : ℝ) : EReal) ≤ a ∧ a < ((thr (n + 1) : ℝ) : EReal) ∧
      kScale a = (((2 : ℝ) ^ ((n : ℤ) - 125) : ℝ) : EReal) ∧ kInv a = (((2 : ℝ) ^ (125 - (n : ℤ)) : ℝ) : EReal)) ∨
    (¬ Normal a ∧ kScale a = 1 ∧ kInv a = 1) := by
  by_cases h : Normal a
  · left
    obtain ⟨n, hf, hn, hlo, hhi⟩ := found a
    have hb : bits a = BitVec.ofNat 16 (128 * (n + 2)) := by
      unfold bits
      rw [if_pos ((normal_bits a).2 h), hf, show (256#16 : BitVec 16) = BitVec.ofNat 16 256 from rfl, ← BitVec.ofNat_add]
      congr 1
    refine ⟨h, n, by omega, ?_, ?_, ?_, ?_⟩
    · rcases hlo with rfl | hlo
      · exact h.1
      · exact hlo
    · by_cases hn' : n + 1 ≤ 238
      · exact hhi _ (by omega) hn'
      · obtain rfl : n = 238 := by omega
        refine lt_of_le_of_lt h.2 (EReal.coe_lt_coe_iff.2 ?_)
        unfold thr; norm_num
    · unfold kScale
      rw [hb, ofBits_pow _ (by omega) (by omega)]
      congr 2; push_cast; ring
    · unfold kInv
      rw [hb]
      have : 32512#16 - BitVec.ofNat 16 (128 * (n + 2)) = BitVec.ofNat 16 (128 * (252 - n)) := by
        apply BitVec.eq_of_toNat_eq
        simp only [BitVec.toNat_sub, BitVec.toNat_ofNat]
        omega
      rw [this, ofBits_pow _ (by omega) (by omega)]
      congr 2
      push_cast [show n ≤ 252 by omega]; ring
  · right
    have hb : bits a = 16256#16 := by
      unfold bits
      rw [if_neg (fun h' => h ((normal_bits a).1 h'))]; rfl
    refine ⟨h, ?_, ?_⟩
    · unfold kScale; rw [hb]; exact Ideal.ofBits_one_bf16
    · unfold kInv; rw [hb]; exact Ideal.ofBits_one_bf16

/-- The scale the reference takes for the magnitude `a`: the least power of two above the quotient. -/
def rScale (a : EReal) : EReal :=
  if ((((2 : ℝ) ^ (-126 : ℤ)) : ℝ) : EReal) ≤ Ideal.div a ((57344 : ℝ) : EReal) ∧ a ≤ ((255 * (2 : ℝ) ^ (120 : ℤ) : ℝ) : EReal) then
    Finset.univ.fold min ⊤ fun i : Fin 254 =>
      if Ideal.div a ((57344 : ℝ) : EReal) < (((2 : ℝ) ^ ((i.val : ℤ) - 125) : ℝ) : EReal) then (((2 : ℝ) ^ ((i.val : ℤ) - 125) : ℝ) : EReal) else ⊤
  else 1

theorem div_coe (r : ℝ) : Ideal.div (r : EReal) ((57344 : ℝ) : EReal) = ((r / 57344 : ℝ) : EReal) := by
  unfold Ideal.div
  rw [if_neg (by norm_num), ← EReal.coe_inv, ← EReal.coe_mul]; rfl

theorem one_div_pow (z : ℤ) : Ideal.div 1 (((2 : ℝ) ^ z : ℝ) : EReal) = (((2 : ℝ) ^ (-z) : ℝ) : EReal) := by
  have hne : ((2 : ℝ) ^ z) ≠ 0 := zpow_ne_zero _ (by norm_num)
  unfold Ideal.div
  rw [if_neg (by exact_mod_cast hne), one_mul, ← EReal.coe_inv, zpow_neg]

/-- Both sides take one scale. -/
theorem rScale_eq (a : EReal) : rScale a = kScale a := by
  induction a using EReal.rec with
  | bot =>
    rcases kScale_spec ⊥ with ⟨h, -⟩ | ⟨-, h, -⟩
    · exact absurd h.1 (by simp)
    · rw [h, rScale, if_neg]
      rintro ⟨h, -⟩
      revert h
      unfold Ideal.div
      rw [if_neg (by norm_num), ← EReal.coe_inv, EReal.bot_mul_coe_of_pos (by norm_num)]
      simp
  | top =>
    rcases kScale_spec ⊤ with ⟨h, -⟩ | ⟨-, h, -⟩
    · exact absurd h.2 (not_le.2 (EReal.coe_lt_top _))
    · rw [h, rScale, if_neg fun h' => absurd h'.2 (not_le.2 (EReal.coe_lt_top _))]
  | coe r =>
    unfold rScale
    rw [div_coe]
    have hiff : ∀ n : ℕ, (r / 57344 < (2 : ℝ) ^ ((n : ℤ) - 125)) ↔ r < thr (n + 1) := by
      intro n
      rw [div_lt_iff₀ (by norm_num), thr]
      have : (2 : ℝ) ^ ((n : ℤ) - 125) * 57344 = 7 / 4 * (2 : ℝ) ^ (((n + 1 : ℕ) : ℤ) - 111) := by
        rw [show (((n + 1 : ℕ) : ℤ) - 111) = ((n : ℤ) - 125) + 15 by push_cast; ring, zpow_add₀ (by norm_num)]
        norm_num; ring
      rw [this]
    have hlow : ((2 : ℝ) ^ (-126 : ℤ) ≤ r / 57344) ↔ thr 0 ≤ r := by
      rw [le_div_iff₀ (by norm_num), thr]
      norm_num
    simp only [EReal.coe_le_coe_iff, EReal.coe_lt_coe_iff, hiff, hlow]
    rcases kScale_spec (r : EReal) with ⟨h, n, hn, hlo, hhi, hs, -⟩ | ⟨h, hs, -⟩
    · rw [hs, if_pos ⟨EReal.coe_le_coe_iff.1 h.1, EReal.coe_le_coe_iff.1 h.2⟩]
      rw [EReal.coe_le_coe_iff] at hlo
      rw [EReal.coe_lt_coe_iff] at hhi
      apply le_antisymm
      · refine Finset.fold_min_le _ |>.2 (.inr ⟨⟨n, by omega⟩, Finset.mem_univ _, ?_⟩)
        rw [if_pos hhi]
      · refine Finset.le_fold_min _ |>.2 ⟨le_top, fun i _ => ?_⟩
        split_ifs with hi
        · refine EReal.coe_le_coe_iff.2 (zpow_le_zpow_right₀ (by norm_num) ?_)
          by_contra hlt
          exact absurd (lt_of_lt_of_le hi (thr_mono (by omega : i.val + 1 ≤ n))) (not_lt.2 hlo)
        · exact le_top
    · rw [hs, if_neg]
      rintro ⟨h1, h2⟩
      exact h ⟨EReal.coe_le_coe_iff.2 h1, EReal.coe_le_coe_iff.2 h2⟩

/-- And one reciprocal. -/
theorem rInv_eq (a : EReal) : Ideal.div 1 (rScale a) = kInv a := by
  rw [rScale_eq]
  rcases kScale_spec a with ⟨h, n, hn, hlo, hhi, hs, hi⟩ | ⟨h, hs, hi⟩
  · rw [hs, hi, one_div_pow]; congr 2; ring
  · rw [hs, hi]
    have := one_div_pow 0
    simpa using this

end Cert.Scale
-- ==== Proof.Block.lean ====
module

public import proofs.«01_k».proof.Proof.Vocab
public import proofs.«01_k».proof.Proof.Scale
public import Idealize.ShloMosaic.Lib.Pointwise
public import Idealize.ShloMosaic.Lib.Bf16Pair
public import Idealize.ShloMosaic.Lib.WordCmp

@[expose] public section
noncomputable section
namespace Cert.KernelIdeal.Wgrad
open Cert.KernelIdeal Cert.KernelIdeal.Gen
open Idealize.ShloMosaic Idealize.ShloMosaic.TcCoe Idealize.ShloMosaic.Tactic

theorem blockOf_eq (raw : Vec Ideal S352x128 .bf16) : blockOf raw = raw := by
  unfold blockOf
  exact interleaveRows_rowsOfParity ..

/-- The greatest magnitude of 128 numbers. -/
def magnitude (f : Fin 128 → EReal) : EReal := Finset.univ.fold max ⊥ fun n => max (f n) (-(f n))

theorem ofBits_neg_inf : Ideal.ofBits .bf16 0xFF80#16 = ⊥ := by
  simp [Ideal.ofBits, Ideal.ieee]

theorem rowMax_apply (raw : Vec Ideal S352x128 .bf16) (o : Fin 352) (l : Fin 128) :
    rowMax raw (ix2 o l) = magnitude fun n => raw (ix2 o n) := by
  unfold rowMax
  rw [blockOf_eq]
  pointwise
  rw [ofBits_neg_inf]; rfl

theorem trial_apply (a : FVec Ideal S352x128 .bf16) (d : BitVec 16) (f : IVec S352x128 16) (i : S352x128.Idx) :
    trial a d f i = Scale.step (a i) d (f i) := by
  unfold trial Scale.step
  pointwise
  rfl

theorem scaleBits_apply (a : FVec Ideal S352x128 .bf16) (i : S352x128.Idx) : scaleBits a i = Scale.bits (a i) := by
  unfold scaleBits Scale.bits Scale.fld field
  pointwise [trial_apply]
  by_cases h1 : Ideal.ofBits FTy.bf16 2144#16 ≤ a i <;> by_cases h2 : a i ≤ Ideal.ofBits FTy.bf16 32639#16 <;>
    simp only [h1, h2, and_self, and_true, and_false, if_true, if_false] <;> rfl

theorem scale_apply (raw : Vec Ideal S352x128 .bf16) (o : Fin 352) (l : Fin 128) :
    scale raw (ix2 o l) = Scale.kScale (magnitude fun n => raw (ix2 o n)) := by
  show Ideal.ofBits .bf16 (scaleBits (rowMax raw) (ix2 o l)) = _
  rw [scaleBits_apply, rowMax_apply]; rfl

/-- A code, from the number, its reciprocal scale. -/
def codeOf (v inv : EReal) : EReal := min (Ideal.ofBits .bf16 0x4760#16) (max (Ideal.ofBits .bf16 0xC760#16) (v * inv))

theorem code_apply (raw : Vec Ideal S352x128 .bf16) (o : Fin 352) (l : Fin 128) :
    code raw (ix2 o l) = codeOf (raw (ix2 o l)) (Scale.kInv (magnitude fun n => raw (ix2 o n))) := by
  unfold code Scale.kInv codeOf
  rw [blockOf_eq, ← rowMax_apply raw o l, ← scaleBits_apply]
  rfl

theorem dequant_apply (raw : Vec Ideal S352x128 .bf16) (o : Fin 352) (l : Fin 128) :
    dequant raw (ix2 o l) = codeOf (raw (ix2 o l)) (Scale.kInv (magnitude fun n => raw (ix2 o n)))
      * Scale.kScale (magnitude fun n => raw (ix2 o n)) := by
  rw [← code_apply, ← scale_apply raw o l]; rfl

theorem tileRows_apply (p : Fin 2) (w : Vec Ideal S176x2x128 .bf16) (r : Fin 176) (l : Fin 128) :
    tileRows p w (ix2 r l) = w (ix3 r p l) := by
  unfold tileRows
  pointwise
  have e : (2 * r.val + p.val) / 2 = r.val := by omega
  simp only [e]
  match p with
  | 0 => rw [if_pos (by simp)]
  | 1 => rw [if_neg (by simp)]

theorem putCol_apply (v21 j : BitVec 32) (p : Fin 2) (raw : Vec Ideal S352x128 .bf16) (old : FVec Ideal S176x128 .bf16)
    (r : Fin 176) (l : Fin 128) :
    putCol v21 j p raw old (ix2 r l) = if BitVec.ofNat 32 l.val = v21 + j then scale raw (ix2 ⟨2 * r.val + p.val, by omega⟩ l) else old (ix2 r l) := by
  unfold putCol
  pointwise
  by_cases h : BitVec.ofNat 32 l.val = v21 + j
  · rw [if_pos h, WordCmp.cmpi_eq_eq, decide_eq_true (show BitVec.ofNat 32 l.val = Scalar.addi v21 j from h)]; rfl
  · rw [if_neg h, WordCmp.cmpi_eq_eq, decide_eq_false (show ¬ BitVec.ofNat 32 l.val = Scalar.addi v21 j from h)]; rfl

theorem turned_apply (v3 : BitVec 32) (k : Fin k0_t1_loop.trips) (p : Fin 2) (w : Vec Ideal S160x2x128 .bf16) (r : Fin 160) (b j : ℕ)
    (hb : firstBlock v3 k = BitVec.ofNat 32 b) (h : b + j < 128) :
    turned v3 k p w (ix2 r ⟨j, by omega⟩) = w (ix3 r p ⟨b + j, h⟩) := by
  unfold turned
  pointwise
  have e : (Scalar.subi (128#32) (firstBlock v3 k)).toNat = 128 - b := by
    rw [hb]
    show (128#32 - BitVec.ofNat 32 b).toNat = _
    rw [BitVec.toNat_sub, BitVec.toNat_ofNat]
    norm_num; omega
  have e' : (j + 128 - (Scalar.subi (128#32) (firstBlock v3 k)).toNat % 128) % 128 = b + j := by rw [e]; omega
  simp only [e']

theorem operand_apply (j : Nat) (hj : j < 128) (h : S160x128.Slices ![0, j] S160x1) (lo hi : FVec Ideal S160x128 .bf16) (x : Vec Ideal S320x128 .fp8e4m3)
   (i : Fin 320) (l : Fin 128) : operand j h lo hi x (ix2 i l) = x (ix2 i l) * (if i.val % 2 = 0 then lo else hi) (ix2 ⟨i.val / 2, by omega⟩ ⟨j, hj⟩) := by
  unfold operand
  pointwise
  split_ifs <;> rfl

theorem operands_apply (lo hi : FVec Ideal S160x128 .bf16) (x : Fin 8 → Vec Ideal S320x128 .fp8e4m3)
    (i : Fin 320) (j : Fin 8) (l : Fin 128) : operands lo hi x (ix2 i ⟨128 * j.val + l.val, by omega⟩) =
      x j (ix2 i l) * (if i.val % 2 = 0 then lo else hi) (ix2 ⟨i.val / 2, by omega⟩ ⟨j.val, by omega⟩) := by
  unfold operands
  pointwise
  obtain ⟨j, hj⟩ := j
  dsimp only
  interval_cases j
  all_goals
    repeat rw [dif_neg (by omega)]
    try rw [dif_pos (by omega)]
    rw [operand_apply _ (by omega)]
    congr 4
    first | rfl | omega | (apply Fin.ext; dsimp only; omega)

theorem dequants_apply (y : Fin 8 → Vec Ideal S352x128 .bf16) (o : Fin 352) (j : Fin 8) (l : Fin 128) :
    dequants y (ix2 o ⟨128 * j.val + l.val, by omega⟩) = dequant (y j) (ix2 o l) := by
  unfold dequants
  pointwise
  obtain ⟨j, hj⟩ := j
  dsimp only
  interval_cases j
  all_goals
    repeat rw [dif_neg (by omega)]
    try rw [dif_pos (by omega)]
    congr 2
    first | rfl | omega | (apply Fin.ext; dsimp only; omega)

theorem accStep_apply (lo hi : FVec Ideal S160x128 .bf16) (x : Fin 8 → Vec Ideal S320x128 .fp8e4m3) (y : Fin 8 → Vec Ideal S352x128 .bf16)
    (acc : Vec Ideal S320x352 .f32) (i : Fin 320) (o : Fin 352) :
    accStep lo hi x y acc (ix2 i o) = acc (ix2 i o) + ∑ n : Fin 1024, operands lo hi x (ix2 i n) * dequants y (ix2 o n) := by
  unfold accStep
  pointwise

theorem tileStep_apply (v21 : BitVec 32) (y : Fin 8 → Vec Ideal S352x128 .bf16) (w : Vec Ideal S176x2x128 .bf16) (r : Fin 176) (p : Fin 2) (l : Fin 128) :
    tileStep v21 y w (ix3 r p l) = tileHalf v21 p y w (ix2 r l) := by
  unfold tileStep
  pointwise
  match p with
  | 0 => rw [if_pos (by simp)]
  | 1 => rw [if_neg (by simp)]

/-- A lane outside the trip's eight columns keeps what the tile held; the others take the block's scale. -/
theorem tileHalf_apply (b : ℕ) (hb : b + 8 ≤ 128) (v21 : BitVec 32) (h21 : v21 = BitVec.ofNat 32 b) (p : Fin 2)
    (y : Fin 8 → Vec Ideal S352x128 .bf16) (w : Vec Ideal S176x2x128 .bf16) (r : Fin 176) (l : Fin 128) :
    tileHalf v21 p y w (ix2 r l) = if h : b ≤ l.val ∧ l.val < b + 8
      then scale (y ⟨l.val - b, by omega⟩) (ix2 ⟨2 * r.val + p.val, by omega⟩ l) else w (ix3 r p l) := by
  have hk : ∀ j : ℕ, j < 8 → (BitVec.ofNat 32 l.val = v21 + BitVec.ofNat 32 j ↔ l.val = b + j) := by
    intro j hj
    rw [h21, ← BitVec.ofNat_add]
    constructor
    · intro h
      have := congrArg BitVec.toNat h
      simp only [BitVec.toNat_ofNat] at this
      omega
    · intro h; rw [h]
  unfold tileHalf
  simp only [putCol_apply, tileRows_apply]
  rw [show (7#32 : BitVec 32) = BitVec.ofNat 32 7 from rfl]
  simp only [hk 0 (by omega), hk 1 (by omega), hk 2 (by omega), hk 3 (by omega), hk 4 (by omega), hk 5 (by omega), hk 6 (by omega), hk 7 (by omega)]
  by_cases h : b ≤ l.val ∧ l.val < b + 8
  · rw [dif_pos h]
    obtain ⟨j, hj⟩ : ∃ j, l.val = b + j := ⟨l.val - b, by omega⟩
    have hj8 : j < 8 := by omega
    have e : (⟨l.val - b, by omega⟩ : Fin 8) = ⟨j, hj8⟩ := Fin.ext (by dsimp only; omega)
    rw [e]
    interval_cases j
    all_goals
      repeat rw [if_neg (by omega)]
      rw [if_pos (by omega)]
      rfl
  · rw [dif_neg h]
    repeat rw [if_neg (by omega)]

end Cert.KernelIdeal.Wgrad
-- ==== Proof.Steps.lean ====
module

public import proofs.«01_k».proof.Proof.Edges
public import proofs.«01_k».proof.Proof.Block

/-! What each step adds to the accumulator and puts into the tile, in terms of the arguments. -/

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic

/-! ## The mathematics, over the arguments -/

/-- The greatest magnitude of one block of 128 tokens of one channel of the cotangent. -/
def magOf (dy : Vec Ideal S2x524288x352 .bf16) (b : Fin 2) (n : Fin 4096) (o : Fin 352) : EReal :=
  magnitude fun l => dy (ix3 b ⟨128 * n.val + l.val, by omega⟩ o)

/-- The block's scale. -/
def scaleAt (dy : Vec Ideal S2x524288x352 .bf16) (b : Fin 2) (n : Fin 4096) (o : Fin 352) : EReal := Scale.kScale (magOf dy b n o)

/-- One token's code. -/
def codeAt (dy : Vec Ideal S2x524288x352 .bf16) (b : Fin 2) (T : Fin 524288) (o : Fin 352) : EReal :=
  codeOf (dy (ix3 b T o)) (Scale.kInv (magOf dy b ⟨T.val / 128, by omega⟩ o))

/-- What one token adds to entry `(i, o)` of the product. -/
def term (x : Vec Ideal S2x524288x320 .fp8e4m3) (xs : Vec Ideal S2x4096x320 .f32) (dy : Vec Ideal S2x524288x352 .bf16)
    (i : Fin 320) (o : Fin 352) (b : Fin 2) (T : Fin 524288) : EReal :=
  (x (ix3 b T i) * xs (ix3 b ⟨T.val / 128, by omega⟩ i)) * (codeAt dy b T o * scaleAt dy b ⟨T.val / 128, by omega⟩ o)

/-- The same with the tokens of both sequences in one row. -/
def termN (x : Vec Ideal S2x524288x320 .fp8e4m3) (xs : Vec Ideal S2x4096x320 .f32) (dy : Vec Ideal S2x524288x352 .bf16)
    (i : Fin 320) (o : Fin 352) (s : ℕ) : EReal :=
  if h : s < 1048576 then term x xs dy i o ⟨s / 524288, by omega⟩ ⟨s % 524288, by omega⟩ else 0

variable (m : (ℓ : Loc nD τ sig) → Buf (Elt Ideal) ℓ)

/-! ## One block -/

theorem dyB_apply (c : Dev nD) (t : Fin cfg0.N) (k : Fin k0_t1_loop.trips) (r : Fin 8) (o : Fin 352) (l : Fin 128) (b : Fin 2) (T : Fin 524288)
    (hb : b.val = t.val / 64) (hT : T.val = 8192 * (t.val % 64) + (1024 * k.val + 128 * r.val + l.val)) :
    dyB (iblk m c 2 t) k r (ix2 o l) = argDy m c (ix3 b T o) := by
  have hk := k.isLt
  have h8 := trips_eq
  rw [← iblk2_apply m c t o ⟨1024 * k.val + 128 * r.val + l.val, by omega⟩ b T hb hT]
  unfold dyB VecWindow.window
  congr 1
  funext d; apply Fin.ext
  match d with
  | ⟨0, _⟩ => show 0 + 1 * o.val = o.val; omega
  | ⟨1, _⟩ => show 1024 * k.val + 128 * r.val + 1 * l.val = 1024 * k.val + 128 * r.val + l.val; omega

theorem xB_apply (c : Dev nD) (t : Fin cfg0.N) (k : Fin k0_t1_loop.trips) (r : Fin 8) (i : Fin 320) (l : Fin 128) (b : Fin 2) (T : Fin 524288)
    (hb : b.val = t.val / 64) (hT : T.val = 8192 * (t.val % 64) + (1024 * k.val + 128 * r.val + l.val)) :
    xB (iblk m c 0 t) k r (ix2 i l) = argX m c (ix3 b T i) := by
  have hk := k.isLt
  have h8 := trips_eq
  rw [← iblk0_apply m c t i ⟨1024 * k.val + 128 * r.val + l.val, by omega⟩ b T hb hT]
  unfold xB VecWindow.window
  congr 1
  funext d; apply Fin.ext
  match d with
  | ⟨0, _⟩ => show 0 + 1 * i.val = i.val; omega
  | ⟨1, _⟩ => show 1024 * k.val + 128 * r.val + 1 * l.val = 1024 * k.val + 128 * r.val + l.val; omega

/-- A block's magnitude is that of its 128 tokens. -/
theorem mag_apply (c : Dev nD) (t : Fin cfg0.N) (k : Fin k0_t1_loop.trips) (r : Fin 8) (o : Fin 352) (b : Fin 2) (n : Fin 4096)
    (hb : b.val = t.val / 64) (hn : n.val = 64 * (t.val % 64) + 8 * k.val + r.val) :
    (magnitude fun l => dyB (iblk m c 2 t) k r (ix2 o l)) = magOf (argDy m c) b n o := by
  unfold magOf
  congr 1
  funext l
  exact dyB_apply m c t k r o l b _ hb (by show 128 * n.val + l.val = _; omega)

theorem scaleB_apply (c : Dev nD) (t : Fin cfg0.N) (k : Fin k0_t1_loop.trips) (r : Fin 8) (o : Fin 352) (l : Fin 128) (b : Fin 2) (n : Fin 4096)
    (hb : b.val = t.val / 64) (hn : n.val = 64 * (t.val % 64) + 8 * k.val + r.val) :
    scale (dyB (iblk m c 2 t) k r) (ix2 o l) = scaleAt (argDy m c) b n o := by
  rw [scale_apply, mag_apply m c t k r o b n hb hn]; rfl

theorem codeB_apply (c : Dev nD) (t : Fin cfg0.N) (k : Fin k0_t1_loop.trips) (r : Fin 8) (o : Fin 352) (l : Fin 128) (b : Fin 2) (T : Fin 524288)
    (hb : b.val = t.val / 64) (hT : T.val = 8192 * (t.val % 64) + (1024 * k.val + 128 * r.val + l.val)) :
    code (dyB (iblk m c 2 t) k r) (ix2 o l) = codeAt (argDy m c) b T o := by
  have hk := k.isLt
  have h8 := trips_eq
  rw [code_apply, mag_apply m c t k r o b ⟨T.val / 128, by omega⟩ hb (by show T.val / 128 = _; omega), dyB_apply m c t k r o l b T hb hT]; rfl

theorem dequantB_apply (c : Dev nD) (t : Fin cfg0.N) (k : Fin k0_t1_loop.trips) (r : Fin 8) (o : Fin 352) (l : Fin 128) (b : Fin 2) (T : Fin 524288)
    (hb : b.val = t.val / 64) (hT : T.val = 8192 * (t.val % 64) + (1024 * k.val + 128 * r.val + l.val)) :
    dequant (dyB (iblk m c 2 t) k r) (ix2 o l) = codeAt (argDy m c) b T o * scaleAt (argDy m c) b ⟨T.val / 128, by omega⟩ o := by
  have hk := k.isLt
  have h8 := trips_eq
  rw [dequant_apply, mag_apply m c t k r o b ⟨T.val / 128, by omega⟩ hb (by show T.val / 128 = _; omega), dyB_apply m c t k r o l b T hb hT]; rfl

/-! ## The step's words -/

theorem firstBlock_eq : ∀ (t : Fin cfg0.N) (k : Fin k0_t1_loop.trips),
    firstBlock (stepBase (grid0.coords t)) k = BitVec.ofNat 32 (64 * (t.val % 2) + 8 * k.val) :=
  (by decide +kernel : ∀ (t : Fin grid0.N) (k : Fin k0_t1_loop.trips), _)

/-- The packed input scales at a point are those of its own 128 blocks, whichever point of the pair took them. -/
def WordsAt (c : Dev nD) (t : Fin cfg0.N) (w : Vec Ideal S160x2x128 .bf16) : Prop :=
  ∀ (r : Fin 160) (p : Fin 2) (l : Fin 128) (b : Fin 2) (n : Fin 4096), b.val = t.val / 64 → n.val = 128 * (t.val % 64 / 2) + l.val →
    w (ix3 r p l) = argXs m c (ix3 b n ⟨2 * r.val + p.val, by omega⟩)

theorem words_of_iblk (c : Dev nD) (t : Fin cfg0.N) : WordsAt m c t (k0_pay2 (iblk m c 1 t)) := by
  intro r p l b n hb hn
  rw [← iblk1_apply m c t _ l b n hb hn]
  unfold k0_pay2
  pointwise
  match p with
  | 0 => rw [if_pos (by simp)]; rfl
  | 1 => rw [if_neg (by simp)]; rfl

theorem WordsAt.lane {c : Dev nD} {t : Fin cfg0.N} {w : Vec Ideal S160x2x128 .bf16} (hw : WordsAt m c t w) (k : Fin k0_t1_loop.trips)
    (i : Fin 320) (j : Fin 8) (b : Fin 2) (n : Fin 4096) (hb : b.val = t.val / 64) (hn : n.val = 64 * (t.val % 64) + 8 * k.val + j.val) :
    (if i.val % 2 = 0 then turned (stepBase (grid0.coords t)) k 0 w else turned (stepBase (grid0.coords t)) k 1 w)
      (ix2 ⟨i.val / 2, by omega⟩ ⟨j.val, by omega⟩) = argXs m c (ix3 b n i) := by
  have hk := k.isLt
  have h8 := trips_eq
  split_ifs with h
  · rw [turned_apply _ k 0 w _ _ j.val (firstBlock_eq t k) (by omega), hw _ _ _ b n hb (by show n.val = _ + (64 * (t.val % 2) + 8 * k.val + j.val); omega)]
    congr 2; apply Fin.ext; show 2 * (i.val / 2) + 0 = i.val; omega
  · rw [turned_apply _ k 1 w _ _ j.val (firstBlock_eq t k) (by omega), hw _ _ _ b n hb (by show n.val = _ + (64 * (t.val % 2) + 8 * k.val + j.val); omega)]
    congr 2; apply Fin.ext; show 2 * (i.val / 2) + 1 = i.val; omega

/-- One token's summand of a trip. -/
theorem summand (c : Dev nD) (t : Fin cfg0.N) (w : Vec Ideal S160x2x128 .bf16) (hw : WordsAt m c t w) (k : Fin k0_t1_loop.trips)
    (i : Fin 320) (o : Fin 352) (q : Fin 1024) :
    operands (turned (stepBase (grid0.coords t)) k 0 w) (turned (stepBase (grid0.coords t)) k 1 w) (xB (iblk m c 0 t) k) (ix2 i q)
        * dequants (dyB (iblk m c 2 t) k) (ix2 o q)
      = termN (argX m c) (argXs m c) (argDy m c) i o (8192 * t.val + (1024 * k.val + q.val)) := by
  have hk := k.isLt
  have h8 := trips_eq
  have ht := t.isLt
  have hN := N_eq
  obtain ⟨j, l, rfl⟩ : ∃ (j : Fin 8) (l : Fin 128), q = ⟨128 * j.val + l.val, by omega⟩ :=
    ⟨⟨q.val / 128, by omega⟩, ⟨q.val % 128, by omega⟩, Fin.ext (by show q.val = 128 * (q.val / 128) + q.val % 128; omega)⟩
  have hs : 8192 * t.val + (1024 * k.val + (128 * j.val + l.val)) < 1048576 := by omega
  unfold termN
  rw [dif_pos hs]
  unfold term
  rw [operands_apply, dequants_apply, dequantB_apply m c t k j o l ⟨(8192 * t.val + (1024 * k.val + (128 * j.val + l.val))) / 524288, by omega⟩
      ⟨(8192 * t.val + (1024 * k.val + (128 * j.val + l.val))) % 524288, by omega⟩ (by show _ / 524288 = _; omega) (by show _ % 524288 = _; omega),
    xB_apply m c t k j i l ⟨(8192 * t.val + (1024 * k.val + (128 * j.val + l.val))) / 524288, by omega⟩
      ⟨(8192 * t.val + (1024 * k.val + (128 * j.val + l.val))) % 524288, by omega⟩ (by show _ / 524288 = _; omega) (by show _ % 524288 = _; omega),
    hw.lane m k i j ⟨(8192 * t.val + (1024 * k.val + (128 * j.val + l.val))) / 524288, by omega⟩
      ⟨(8192 * t.val + (1024 * k.val + (128 * j.val + l.val))) % 524288 / 128, by omega⟩ (by show _ / 524288 = _; omega) (by show _ % 524288 / 128 = _; omega)]

/-- The accumulator after `n` trips of point `t`. -/
theorem accTrips_apply (c : Dev nD) (t : Fin cfg0.N) (w : Vec Ideal S160x2x128 .bf16) (hw : WordsAt m c t w) (acc : Vec Ideal S320x352 .f32)
    (i : Fin 320) (o : Fin 352) : ∀ n, n ≤ k0_t1_loop.trips →
    accTrips (stepBase (grid0.coords t)) (iblk m c 0 t) (iblk m c 2 t) w acc n (ix2 i o)
      = acc (ix2 i o) + ∑ s ∈ Finset.range (1024 * n), termN (argX m c) (argXs m c) (argDy m c) i o (8192 * t.val + s) := by
  intro n
  induction n with
  | zero => intro _; simp [accTrips]
  | succ n ih =>
    intro hn
    unfold accTrips
    rw [dif_pos (show n < k0_t1_loop.trips from hn), accStep_apply, ih (by omega), add_assoc, Nat.mul_succ, Finset.sum_range_add]
    congr 2
    rw [Finset.sum_range]
    exact Finset.sum_congr rfl fun q _ => summand m c t w hw ⟨n, hn⟩ i o q

/-- The tile after `n` trips of point `t`: the scales of the point's first `8n` blocks in its half of the lanes. -/
theorem tileTrips_apply (c : Dev nD) (t : Fin cfg0.N) (tile : Vec Ideal S176x2x128 .bf16) (r : Fin 176) (p : Fin 2) (l : Fin 128)
    (b : Fin 2) (hb : b.val = t.val / 64) (n' : Fin 4096) (hn' : n'.val = 128 * (t.val % 64 / 2) + l.val) : ∀ n, n ≤ k0_t1_loop.trips →
    tileTrips (stepBase (grid0.coords t)) (iblk m c 2 t) tile n (ix3 r p l)
      = if 64 * (t.val % 2) ≤ l.val ∧ l.val < 64 * (t.val % 2) + 8 * n then scaleAt (argDy m c) b n' ⟨2 * r.val + p.val, by omega⟩
        else tile (ix3 r p l) := by
  have h8 := trips_eq
  intro n
  induction n with
  | zero => intro _; rw [if_neg (by omega)]; rfl
  | succ n ih =>
    intro hn
    unfold tileTrips
    rw [dif_pos (show n < k0_t1_loop.trips from hn), tileStep_apply, tileHalf_apply (64 * (t.val % 2) + 8 * n) (by omega) _ (firstBlock_eq t ⟨n, hn⟩), ih (by omega)]
    by_cases h : 64 * (t.val % 2) + 8 * n ≤ l.val ∧ l.val < 64 * (t.val % 2) + 8 * n + 8
    · rw [dif_pos h, if_pos (by omega)]
      exact scaleB_apply m c t ⟨n, hn⟩ _ _ l b n' hb (by show n'.val = _ + 8 * n + (l.val - _); omega)
    · rw [dif_neg h]
      by_cases h' : 64 * (t.val % 2) ≤ l.val ∧ l.val < 64 * (t.val % 2) + 8 * n
      · rw [if_pos h', if_pos (by omega)]
      · rw [if_neg h', if_neg (by omega)]

end Cert.KernelIdeal.Wgrad
-- ==== Proof.Points.lean ====
module

public import proofs.«01_k».proof.Proof.Steps

/-! What the carried buffers hold after every point, and the three arrays the region leaves, in terms of the arguments. -/

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic

variable (m : (ℓ : Loc nD τ sig) → Buf (Elt Ideal) ℓ)

/-- What the carried buffers hold after point `t`: the sum over all tokens so far, the pair's input scales, and the
pair's scales so far. -/
def Held (c : Dev nD) (t : Fin cfg0.N) (s : St Ideal) : Prop :=
  (∀ i o, s.1 (ix2 i o) = ∑ q ∈ Finset.range (8192 * (t.val + 1)), termN (argX m c) (argXs m c) (argDy m c) i o q)
  ∧ WordsAt m c t s.2.1
  ∧ ∀ (r : Fin 176) (p : Fin 2) (l : Fin 128) (b : Fin 2) (n : Fin 4096), b.val = t.val / 64 → n.val = 128 * (t.val % 64 / 2) + l.val →
      l.val < 64 * (t.val % 2 + 1) → s.2.2 (ix3 r p l) = scaleAt (argDy m c) b n ⟨2 * r.val + p.val, by omega⟩

theorem zeros_apply (i : Fin 320) (o : Fin 352) : (k0_pay1 : FVec Ideal S320x352 .f32) (ix2 i o) = 0 := by
  unfold k0_pay1
  pointwise

/-- One point: from what the point before left, when there is one. -/
theorem held_step (c : Dev nD) (t : Fin cfg0.N) (p : St Ideal)
    (hp : t.val ≠ 0 → ∀ u : Fin cfg0.N, u.val + 1 = t.val → Held m c u p) : Held m c t (stOut m c t (stIn m c t p)) := by
  have ht := t.isLt
  have hN := N_eq
  have h8 := trips_eq
  have hw : WordsAt m c t (stIn m c t p).2.1 := by
    by_cases h : t.val % 2 = 0
    · have : (stIn m c t p).2.1 = k0_pay2 (iblk m c 1 t) := if_pos h
      rw [this]; exact words_of_iblk m c t
    · have e : (stIn m c t p).2.1 = p.2.1 := if_neg h
      rw [e]
      intro r q l b n hb hn
      exact (hp (by omega) ⟨t.val - 1, by omega⟩ (by show t.val - 1 + 1 = _; omega)).2.1 r q l b n
        (by show b.val = (t.val - 1) / 64; omega) (by show n.val = 128 * ((t.val - 1) % 64 / 2) + l.val; omega)
  refine ⟨fun i o => ?_, hw, fun r q l b n hb hn hl => ?_⟩
  · show accTrips _ _ _ _ _ _ (ix2 i o) = _
    rw [accTrips_apply m c t _ hw _ i o _ le_rfl, h8, show 1024 * 8 = 8192 from rfl,
      show 8192 * (t.val + 1) = 8192 * t.val + 8192 from by omega, Finset.sum_range_add]
    congr 1
    by_cases hz : t.val = 0
    · have e : (stIn m c t p).1 = (k0_pay1 : FVec Ideal S320x352 .f32) := if_pos (show t.val % 128 = 0 by omega)
      rw [e, zeros_apply, hz]; simp
    · have e : (stIn m c t p).1 = p.1 := if_neg (by omega)
      rw [e, (hp hz ⟨t.val - 1, by omega⟩ (by show t.val - 1 + 1 = _; omega)).1 i o]
      congr 2
      show 8192 * (t.val - 1 + 1) = _; omega
  · show tileTrips _ _ _ _ (ix3 r q l) = _
    rw [tileTrips_apply m c t _ r q l b hb n hn _ le_rfl, h8]
    split_ifs with h
    · rfl
    · have e : (stIn m c t p).2.2 = p.2.2 := if_neg (by omega)
      rw [e]
      exact (hp (by omega) ⟨t.val - 1, by omega⟩ (by show t.val - 1 + 1 = _; omega)).2.2 r q l b n
        (by show b.val = (t.val - 1) / 64; omega) (by show n.val = 128 * ((t.val - 1) % 64 / 2) + l.val; omega)
        (by show l.val < 64 * ((t.val - 1) % 2 + 1); omega)

theorem held (c : Dev nD) : ∀ (n : ℕ) (h : n < cfg0.N), Held m c ⟨n, h⟩ (stAt m c n h)
  | 0, h => held_step m c ⟨0, h⟩ (st0 m c h) fun hz => absurd rfl hz
  | n + 1, h => held_step m c ⟨n + 1, h⟩ (stAt m c n (Nat.lt_of_succ_lt h)) fun _ u hu => by
      have e : u = ⟨n, Nat.lt_of_succ_lt h⟩ := Fin.ext (by have : u.val + 1 = n + 1 := hu; show u.val = n; omega)
      rw [e]; exact held c n _

/-! ## The arrays -/

theorem G4_apply (c : Dev nD) (i : Fin 320) (o : Fin 352) :
    G4 m c (ix2 i o) = argMg m c (ix2 i o) + ∑ q ∈ Finset.range 1048576, termN (argX m c) (argXs m c) (argDy m c) i o q := by
  have hN := N_eq
  have h : pt4Of (ix2 i o) = 127 := by
    show 128 * (1 * (i.val / 320 - 0) + 1 * (o.val / 352 - 0)) + 127 = 127; omega
  have hl : loc4Of (ix2 i o) = ix2 i o := by
    funext d; apply Fin.ext
    match d with
    | ⟨0, _⟩ => show i.val % 320 = i.val; omega
    | ⟨1, _⟩ => show o.val % 352 = o.val; omega
  unfold G4
  rw [dif_pos (by rw [h, hN]; omega), left4_congr m c h (h' := by rw [hN]; omega), hl]
  unfold left4 k0_pay7
  exact congrArg₂ (· + ·) (iblk3_apply m c _ i o) ((held m c 127 _).1 i o)

theorem G5_apply (c : Dev nD) (b : Fin 2) (o : Fin 352) (T : Fin 524288) :
    G5 m c (ix2 ⟨352 * b.val + o.val, by omega⟩ T) = codeAt (argDy m c) b T o := by
  have hN := N_eq
  have h8 := trips_eq
  have h : pt5Of (ix2 ⟨352 * b.val + o.val, by omega⟩ T) = 64 * b.val + T.val / 8192 := by
    show 64 * ((352 * b.val + o.val) / 352 - 0) + 1 * (T.val / 8192 - 0) = _; omega
  unfold G5
  rw [dif_pos (by rw [h, hN]; omega), left5_congr m c h (h' := by rw [hN]; omega)]
  unfold left5
  rw [codesOf_at _ _ ⟨T.val % 8192 / 1024, by omega⟩ ⟨T.val % 1024 / 128, by omega⟩ ⟨T.val % 128, by omega⟩
    (by show T.val % 8192 = 1024 * (T.val % 8192 / 1024) + 128 * (T.val % 1024 / 128) + T.val % 128; omega)]
  have hl : loc5Of (ix2 ⟨352 * b.val + o.val, by omega⟩ T) 0 = o := Fin.ext (by show (352 * b.val + o.val) % 352 = o.val; omega)
  rw [hl]
  exact codeB_apply m c ⟨64 * b.val + T.val / 8192, by rw [hN]; omega⟩ _ _ o _ b T (by show b.val = (64 * b.val + T.val / 8192) / 64; omega)
    (by show T.val = 8192 * ((64 * b.val + T.val / 8192) % 64) + (1024 * (T.val % 8192 / 1024) + 128 * (T.val % 1024 / 128) + T.val % 128); omega)

theorem tileOut_apply (w : Vec Ideal S176x2x128 .bf16) (o : Fin 352) (l : Fin 128) :
    k0_pay6 w (ix2 o l) = w (ix3 ⟨o.val / 2, by omega⟩ ⟨o.val % 2, by omega⟩ l) := by
  unfold k0_pay6
  pointwise
  split_ifs with h
  · congr 2; apply Fin.ext; show 0 = o.val % 2; omega
  · congr 2; apply Fin.ext; show 1 = o.val % 2; omega

theorem G6_apply (c : Dev nD) (b : Fin 2) (o : Fin 352) (n : Fin 4096) :
    G6 m c (ix2 ⟨352 * b.val + o.val, by omega⟩ n) = scaleAt (argDy m c) b n o := by
  have hN := N_eq
  have h : pt6Of (ix2 ⟨352 * b.val + o.val, by omega⟩ n) = 2 * (32 * b.val + n.val / 128) + 1 := by
    show 2 * (32 * ((352 * b.val + o.val) / 352 - 0) + 1 * (n.val / 128 - 0)) + 1 = _; omega
  have hl : loc6Of (ix2 ⟨352 * b.val + o.val, by omega⟩ n) = ix2 o ⟨n.val % 128, by omega⟩ := by
    funext d; apply Fin.ext
    match d with
    | ⟨0, _⟩ => show (352 * b.val + o.val) % 352 = o.val; omega
    | ⟨1, _⟩ => rfl
  unfold G6
  rw [dif_pos (by rw [h, hN]; omega), left6_congr m c h (h' := by rw [hN]; omega), hl]
  unfold left6
  rw [tileOut_apply, (held m c _ _).2.2 _ _ _ b n (by show b.val = (2 * (32 * b.val + n.val / 128) + 1) / 64; omega)
    (by show n.val = 128 * ((2 * (32 * b.val + n.val / 128) + 1) % 64 / 2) + n.val % 128; omega)
    (by show n.val % 128 < 64 * ((2 * (32 * b.val + n.val / 128) + 1) % 2 + 1); omega)]
  congr 1; apply Fin.ext; show 2 * (o.val / 2) + o.val % 2 = o.val; omega

end Cert.KernelIdeal.Wgrad
-- ==== Proof.Ref.lean ====
module

public import proofs.«01_k».proof.Proof.Steps
public import proofs.«01_k».proof.Proof.Gen.ReferenceIdeal.Value
public import Idealize.ShloMosaic.Lib.IdealHost

/-! The reference's results in terms of the arguments. -/

@[expose] public section

set_option maxRecDepth 16384

noncomputable section

namespace Cert.ReferenceIdeal.Wgrad

open Cert.ReferenceIdeal Cert.ReferenceIdeal.Gen
open Cert.KernelIdeal.Wgrad (magnitude magOf scaleAt codeAt codeOf term termN)
open Idealize.ShloMosaic Idealize.ShloMosaic.TcCoe Idealize.ShloMosaic.Tactic
variable {F : FTy → Type} [FloatOps F]

/-- The greatest magnitudes of all blocks. -/
def maxima (v : FVec F S2x4096x128x352 .f32) : FVec F S2x4096x352 .f32 :=
  multiReduction .maximumf [2] S2x4096x352 (absf v) 0xFF800000#32 reduces_S2x4096x128x352_S2x4096x352 (.inl rfl) rfl

/-- The powers of two tried. -/
def powers : FVec F S254x2x4096x352 .f32 :=
  exp2 (sitofp .f32 (subi (iota .tc S254x2x4096x352 32 [0] iota_S254x2x4096x352_d0_w32) (broadcast S254x2x4096x352 125#32)))

/-- The powers above the quotient, infinity in place of the others. -/
def above (q : FVec F S2x4096x352 .f32) (w : FVec F S254x2x4096x352 .f32) : FVec F S254x2x4096x352 .f32 :=
  select (cmpf .olt (broadcastTo S254x2x4096x352 (shapeCast S1x2x4096x352 q shapeCasts_S2x4096x352_S1x2x4096x352) broadcasts_S1x2x4096x352_S254x2x4096x352) w) w
    (broadcast S254x2x4096x352 (Scalar.ofBits .f32 0x7F800000#32))

/-- The least of them. -/
def least (w : FVec F S254x2x4096x352 .f32) : FVec F S2x4096x352 .f32 :=
  multiReduction .minimumf [0] S2x4096x352 w 0x7F800000#32 reduces_S254x2x4096x352_S2x4096x352 (.inl rfl) rfl

theorem maxima_apply (v : FVec Ideal S2x4096x128x352 .f32) (b : Fin 2) (n : Fin 4096) (o : Fin 352) :
    maxima v (ix3 b n o) = magnitude fun l => v (ix4 b n l o) := by
  unfold maxima
  pointwise
  rfl

theorem powers_apply (i : Fin 254) (b : Fin 2) (n : Fin 4096) (o : Fin 352) :
    (powers : FVec Ideal S254x2x4096x352 .f32) (ix4 i b n o) = FloatOps.exp2 (FloatOps.sitofp .f32 (IntOp.subi (BitVec.ofNat 32 i.val) 125#32)) := by
  unfold powers
  pointwise

theorem above_apply (q : FVec Ideal S2x4096x352 .f32) (w : FVec Ideal S254x2x4096x352 .f32) (i : Fin 254) (b : Fin 2) (n : Fin 4096) (o : Fin 352) :
    above q w (ix4 i b n o) = if q (ix3 b n o) < w (ix4 i b n o) then w (ix4 i b n o) else Ideal.ofBits .f32 0x7F800000#32 := by
  unfold above
  pointwise

theorem least_apply (w : FVec Ideal S254x2x4096x352 .f32) (b : Fin 2) (n : Fin 4096) (o : Fin 352) :
    least w (ix3 b n o) = Finset.univ.fold min (Ideal.ofBits .f32 0x7F800000#32) fun i : Fin 254 => w (ix4 i b n o) := by
  unfold least
  pointwise

theorem absolute_apply (dy : Vec Ideal S2x524288x352 .bf16) (b : Fin 2) (n : Fin 4096) (l : Fin 128) (o : Fin 352) :
    k0_pay3 dy (ix4 b n l o) = dy (ix3 b ⟨128 * n.val + l.val, by omega⟩ o) := by
  unfold k0_pay3
  pointwise
  congr 2; apply Fin.ext; show n.val * 128 + l.val = 128 * n.val + l.val; omega

theorem k0_pay4_eq (dy : Vec F S2x524288x352 .bf16) : k0_pay4 dy =
    select (andi (cmpf .oge (divf (maxima (k0_pay3 dy)) (broadcast S2x4096x352 (Scalar.ofBits .f32 0x47600000#32))) (broadcast S2x4096x352 (Scalar.ofBits .f32 0x00800000#32)))
      (cmpf .ole (maxima (k0_pay3 dy)) (broadcast S2x4096x352 (Scalar.ofBits .f32 0x7F7F0000#32))))
      (least (above (divf (maxima (k0_pay3 dy)) (broadcast S2x4096x352 (Scalar.ofBits .f32 0x47600000#32))) powers))
      (broadcast S2x4096x352 (Scalar.ofBits .f32 0x3F800000#32)) := by rfl

/-! ## The constants -/

theorem ofBits_57344 : Ideal.ofBits .f32 0x47600000#32 = ((57344 : ℝ) : EReal) := by
  simp [Ideal.ofBits, Ideal.ieee, -EReal.coe_mul]; norm_num
theorem ofBits_neg_57344 : Ideal.ofBits .f32 0xC7600000#32 = ((-57344 : ℝ) : EReal) := by
  simp [Ideal.ofBits, Ideal.ieee, -EReal.coe_mul]; norm_num
theorem ofBits_least_normal : Ideal.ofBits .f32 0x00800000#32 = (((2 : ℝ) ^ (-126 : ℤ) : ℝ) : EReal) := by
  simp [Ideal.ofBits, Ideal.ieee, -EReal.coe_mul]; norm_num
theorem ofBits_greatest_bf16 : Ideal.ofBits .f32 0x7F7F0000#32 = ((255 * (2 : ℝ) ^ (120 : ℤ) : ℝ) : EReal) := by
  simp [Ideal.ofBits, Ideal.ieee, -EReal.coe_mul]; norm_num
theorem ofBits_inf : Ideal.ofBits .f32 0x7F800000#32 = ⊤ := by
  simp [Ideal.ofBits, Ideal.ieee, -EReal.coe_mul]
theorem ofBits_bf16_57344 : Ideal.ofBits .bf16 0x4760#16 = ((57344 : ℝ) : EReal) := by
  simp [Ideal.ofBits, Ideal.ieee, -EReal.coe_mul]; norm_num
theorem ofBits_bf16_neg_57344 : Ideal.ofBits .bf16 0xC760#16 = ((-57344 : ℝ) : EReal) := by
  simp [Ideal.ofBits, Ideal.ieee, -EReal.coe_mul]; norm_num

theorem toInt_exponent : ∀ i : Fin 254, (IntOp.subi (BitVec.ofNat 32 i.val) 125#32).toInt = (i.val : ℤ) - 125 := by decide +kernel

theorem power_eq (i : Fin 254) : (FloatOps.exp2 (FloatOps.sitofp .f32 (IntOp.subi (BitVec.ofNat 32 i.val) 125#32)) : Ideal .f32)
    = (((2 : ℝ) ^ ((i.val : ℤ) - 125) : ℝ) : EReal) := by
  show Ideal.exp2 (((IntOp.subi (BitVec.ofNat 32 i.val) 125#32).toInt : ℝ) : EReal) = _
  rw [toInt_exponent, Ideal.exp2_coe]
  congr 1
  exact Real.rpow_intCast 2 _

/-! ## The scales and the codes -/

theorem pick_apply {s : Shape} (M Q L : FVec Ideal s .f32) (c₁ c₂ c₃ : Ideal .f32) (i : s.Idx) :
    select (andi (cmpf .oge Q (broadcast s c₁)) (cmpf .ole M (broadcast s c₂))) L (broadcast s c₃) i
      = if (c₁ : EReal) ≤ Q i ∧ (M i : EReal) ≤ c₂ then L i else c₃ := by
  show Scalar.select (BitVec.ofBool (decide ((c₁ : EReal) ≤ Q i)) &&& BitVec.ofBool (decide ((M i : EReal) ≤ c₂))) (L i) c₃ = _
  by_cases h₁ : (c₁ : EReal) ≤ Q i <;> by_cases h₂ : (M i : EReal) ≤ c₂ <;> simp [h₁, h₂, Scalar.select]

theorem quotient_apply {s : Shape} (M : FVec Ideal s .f32) (c : Ideal .f32) (i : s.Idx) :
    divf M (broadcast s c) i = Ideal.div (M i) c := rfl

theorem scales_apply (dy : Vec Ideal S2x524288x352 .bf16) (b : Fin 2) (n : Fin 4096) (o : Fin 352) :
    k0_pay4 dy (ix3 b n o) = scaleAt dy b n o := by
  have hm : maxima (k0_pay3 dy) (ix3 b n o) = magOf dy b n o := by
    rw [maxima_apply]; unfold magOf; congr 1; funext l; exact absolute_apply dy b n l o
  unfold scaleAt
  rw [← Cert.Scale.rScale_eq, ← hm, k0_pay4_eq, pick_apply, quotient_apply, least_apply]
  simp only [above_apply, powers_apply, power_eq, quotient_apply]
  generalize (maxima (k0_pay3 dy) (ix3 b n o) : EReal) = M
  unfold Cert.Scale.rScale
  rw [← ofBits_57344, ← ofBits_least_normal, ← ofBits_greatest_bf16, ← ofBits_inf,
    show (Scalar.ofBits .f32 0x3F800000#32 : Ideal .f32) = (1 : EReal) from Ideal.ofBits_one_f32]
  rfl

/-- One number per block and channel, repeated over the block's tokens. -/
def spread (v : FVec F S2x4096x352 .f32) : FVec F S2x4096x128x352 .f32 :=
  broadcastTo S2x4096x128x352 (shapeCast S2x4096x1x352 v shapeCasts_S2x4096x352_S2x4096x1x352) broadcasts_S2x4096x1x352_S2x4096x128x352

theorem spread_apply (v : FVec Ideal S2x4096x352 .f32) (b : Fin 2) (n : Fin 4096) (l : Fin 128) (o : Fin 352) :
    spread v (ix4 b n l o) = v (ix3 b n o) := by
  unfold spread
  pointwise

theorem codes_apply (dy : Vec Ideal S2x524288x352 .bf16) (b : Fin 2) (n : Fin 4096) (l : Fin 128) (o : Fin 352) :
    k0_pay5 dy (ix4 b n l o) = codeAt dy b ⟨128 * n.val + l.val, by omega⟩ o := by
  have e : k0_pay5 dy (ix4 b n l o) = min (Ideal.ofBits .f32 0x47600000#32) (max (Ideal.ofBits .f32 0xC7600000#32)
      (k0_pay3 dy (ix4 b n l o) * spread (divf (broadcast S2x4096x352 (Scalar.ofBits .f32 0x3F800000#32)) (k0_pay4 dy)) (ix4 b n l o))) := rfl
  have hq : spread (divf (broadcast S2x4096x352 (Scalar.ofBits .f32 0x3F800000#32)) (k0_pay4 dy)) (ix4 b n l o)
      = Cert.Scale.kInv (magOf dy b n o) := by
    rw [spread_apply, ← Cert.Scale.rInv_eq, Cert.Scale.rScale_eq]
    show Ideal.div (Ideal.ofBits .f32 0x3F800000#32) (k0_pay4 dy (ix3 b n o)) = _
    rw [scales_apply, Ideal.ofBits_one_f32]; rfl
  rw [e, hq, absolute_apply]
  unfold codeAt codeOf
  rw [ofBits_57344, ofBits_neg_57344, ofBits_bf16_57344, ofBits_bf16_neg_57344]
  have hn : (⟨(128 * n.val + l.val) / 128, by omega⟩ : Fin 4096) = n := Fin.ext (by show (128 * n.val + l.val) / 128 = n.val; omega)
  rw [hn]

/-! ## The product -/

/-- The tokens of both sequences in one row. -/
def rowX (v : FVec F S2x4096x128x320 .bf16) : FVec F S1048576x320 .bf16 := shapeCast S1048576x320 v shapeCasts_S2x4096x128x320_S1048576x320
def rowDy (v : FVec F S2x4096x128x352 .bf16) : FVec F S1048576x352 .bf16 := shapeCast S1048576x352 v shapeCasts_S2x4096x128x352_S1048576x352

theorem rowX_apply (v : FVec Ideal S2x4096x128x320 .bf16) (T : Fin 1048576) (i : Fin 320) :
    rowX v (ix2 T i) = v (ix4 (⟨T.val / 524288, by omega⟩ : Fin 2) (⟨T.val % 524288 / 128, by omega⟩ : Fin 4096) (⟨T.val % 128, by omega⟩ : Fin 128) i) := by
  unfold rowX
  pointwise
  have e : T.val / 128 % 4096 = T.val % 524288 / 128 := by omega
  simp only [e]

theorem rowDy_apply (v : FVec Ideal S2x4096x128x352 .bf16) (T : Fin 1048576) (i : Fin 352) :
    rowDy v (ix2 T i) = v (ix4 (⟨T.val / 524288, by omega⟩ : Fin 2) (⟨T.val % 524288 / 128, by omega⟩ : Fin 4096) (⟨T.val % 128, by omega⟩ : Fin 128) i) := by
  unfold rowDy
  pointwise
  have e : T.val / 128 % 4096 = T.val % 524288 / 128 := by omega
  simp only [e]

/-- The first operand's scales, repeated over each block's tokens. -/
def spreadX (v : FVec F S2x4096x320 .bf16) : FVec F S2x4096x128x320 .bf16 :=
  broadcastTo S2x4096x128x320 (shapeCast S2x4096x1x320 v shapeCasts_S2x4096x320_S2x4096x1x320) broadcasts_S2x4096x1x320_S2x4096x128x320

theorem spreadX_apply (v : FVec Ideal S2x4096x320 .bf16) (b : Fin 2) (n : Fin 4096) (l : Fin 128) (i : Fin 320) :
    spreadX v (ix4 b n l i) = v (ix3 b n i) := by
  unfold spreadX
  pointwise

theorem castX_apply (x : Vec Ideal S2x524288x320 .fp8e4m3) (b : Fin 2) (n : Fin 4096) (l : Fin 128) (i : Fin 320) :
    k0_pay6 x (ix4 b n l i) = x (ix3 b ⟨128 * n.val + l.val, by omega⟩ i) := by
  unfold k0_pay6
  pointwise
  congr 2; apply Fin.ext; show n.val * 128 + l.val = 128 * n.val + l.val; omega

theorem product_apply (A : FVec Ideal S1048576x320 .bf16) (B : FVec Ideal S1048576x352 .bf16) (i : Fin 320) (o : Fin 352) :
    matmul dot_S1048576x320_S1048576x352_S320x352_0_0_1_1_n_n none A B (constant S320x352 .f32 0x00000000#32) (ix2 i o)
      = ∑ T : Fin 1048576, A (ix2 T i) * B (ix2 T o) := by
  pointwise

/-! ## The results -/

theorem pay8_eq (x : Vec F S2x524288x320 .fp8e4m3) (xs : Vec F S2x4096x320 .f32) (dy : Vec F S2x524288x352 .bf16) (mg : Vec F S320x352 .f32) :
    k0_pay8 x xs dy mg = k0_pay4 dy := by
  unfold k0_pay8
  rw [View.ld_unit_zero (S := S2x524288x352) Value.hz2 _ dy]
theorem pay9_eq (x : Vec F S2x524288x320 .fp8e4m3) (xs : Vec F S2x4096x320 .f32) (dy : Vec F S2x524288x352 .bf16) (mg : Vec F S320x352 .f32) :
    k0_pay9 x xs dy mg = k0_pay5 dy := by
  unfold k0_pay9
  rw [View.ld_unit_zero (S := S2x524288x352) Value.hz2 _ dy]

/-- The reference's sum, from the scales, the codes and the first operand. -/
theorem pay1_eq (v24 : FVec Ideal S2x4096x352 .f32) (v34 : FVec Ideal S2x4096x128x352 .fp8e5m2) (v37 : FVec Ideal S2x4096x128x320 .bf16)
    (v39 : FVec Ideal S2x4096x320 .bf16) (mg : Vec Ideal S320x352 .f32) :
    k0_pay1 v24 v34 v37 v39 mg = addf mg (matmul dot_S1048576x320_S1048576x352_S320x352_0_0_1_1_n_n none (rowX (mulf v37 (spreadX v39)))
          (rowDy (mulf (F := Ideal) (φ := .bf16) v34 (spread v24))) (constant S320x352 .f32 0x00000000#32)) := rfl

theorem G4_apply (x : Vec Ideal S2x524288x320 .fp8e4m3) (xs : Vec Ideal S2x4096x320 .f32) (dy : Vec Ideal S2x524288x352 .bf16) (mg : Vec Ideal S320x352 .f32)
    (i : Fin 320) (o : Fin 352) :
    Value.G4 x xs dy mg (ix2 i o) = mg (ix2 i o) + ∑ T ∈ Finset.range 1048576, termN x xs dy i o T := by
  show k0_pay1 (k0_pay8 x xs dy mg) (k0_pay9 x xs dy mg) (k0_pay6 x) (k0_pay7 xs) mg (ix2 i o) = _
  rw [pay8_eq, pay9_eq, pay1_eq]
  refine congrArg (mg (ix2 i o) + ·) ?_
  refine (product_apply _ _ i o).trans ?_
  rw [Finset.sum_range]
  refine Finset.sum_congr rfl fun T _ => ?_
  have hT := T.isLt
  have hv : (⟨128 * (T.val % 524288 / 128) + T.val % 128, by omega⟩ : Fin 524288) = ⟨T.val % 524288, by omega⟩ :=
    Fin.ext (by show 128 * (T.val % 524288 / 128) + T.val % 128 = T.val % 524288; omega)
  rw [rowX_apply, rowDy_apply]
  unfold termN term
  rw [dif_pos hT]
  exact congrArg₂ (· * ·)
    (congrArg₂ (· * ·) ((castX_apply x _ _ _ i).trans (congrArg (fun t => x (ix3 _ t i)) hv)) (spreadX_apply _ _ _ _ i))
    (congrArg₂ (· * ·) ((codes_apply dy _ _ _ o).trans (congrArg (fun t => codeAt dy _ t o) hv))
      ((spread_apply _ _ _ _ o).trans (scales_apply dy _ _ o)))

theorem G5_apply (x : Vec Ideal S2x524288x320 .fp8e4m3) (xs : Vec Ideal S2x4096x320 .f32) (dy : Vec Ideal S2x524288x352 .bf16) (mg : Vec Ideal S320x352 .f32)
    (b : Fin 2) (T : Fin 524288) (o : Fin 352) : Value.G5 x xs dy mg (ix3 b T o) = codeAt dy b T o := by
  have hT := T.isLt
  have hv : (⟨128 * (T.val / 128) + T.val % 128, by omega⟩ : Fin 524288) = T :=
    Fin.ext (by show 128 * (T.val / 128) + T.val % 128 = T.val; omega)
  have e : Value.G5 x xs dy mg (ix3 b T o) = k0_pay5 dy (ix4 b (⟨T.val / 128, by omega⟩ : Fin 4096) (⟨T.val % 128, by omega⟩ : Fin 128) o) := by
    show k0_pay2 (k0_pay9 x xs dy mg) (ix3 b T o) = _
    rw [pay9_eq]
    generalize k0_pay5 dy = v
    unfold k0_pay2
    pointwise
  rw [e, codes_apply, hv]

theorem G6_apply (x : Vec Ideal S2x524288x320 .fp8e4m3) (xs : Vec Ideal S2x4096x320 .f32) (dy : Vec Ideal S2x524288x352 .bf16) (mg : Vec Ideal S320x352 .f32)
    (b : Fin 2) (n : Fin 4096) (o : Fin 352) : Value.G6 x xs dy mg (ix3 b n o) = scaleAt dy b n o := by
  show k0_pay8 x xs dy mg (ix3 b n o) = _
  rw [pay8_eq]; exact scales_apply dy b n o

end Cert.ReferenceIdeal.Wgrad
-- ==== Proof.Agree.lean ====
module

public import proofs.«01_k».proof.Proof.Points
public import proofs.«01_k».proof.Proof.Ref

/-! The kernel's results are the reference's. -/

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic

variable (m : (ℓ : Loc nD τ sig) → Buf (Elt Ideal) ℓ)

/-- The codes the program returns: the region's, tokens before channels. -/
def codesBack (A : Vec Ideal S704x524288 .fp8e5m2) : Vec Ideal S2x524288x352 .fp8e5m2 :=
  transpose S2x524288x352 [0, 2, 1] (shapeCast S2x352x524288 A shapeCasts_S704x524288_S2x352x524288) transposes_S2x352x524288_S2x524288x352_0_2_1

theorem codesBack_apply (A : Vec Ideal S704x524288 .fp8e5m2) (b : Fin 2) (T : Fin 524288) (o : Fin 352) :
    codesBack A (ix3 b T o) = A (ix2 ⟨352 * b.val + o.val, by omega⟩ T) := by
  unfold codesBack
  pointwise
  simp only [Nat.mul_comm b.val 352]

/-- The scales the program returns. -/
def scalesBack (A : Vec Ideal S704x4096 .f32) : Vec Ideal S2x4096x352 .f32 :=
  transpose S2x4096x352 [0, 2, 1] (shapeCast S2x352x4096 A shapeCasts_S704x4096_S2x352x4096) transposes_S2x352x4096_S2x4096x352_0_2_1

theorem scalesBack_apply (A : Vec Ideal S704x4096 .f32) (b : Fin 2) (n : Fin 4096) (o : Fin 352) :
    scalesBack A (ix3 b n o) = A (ix2 ⟨352 * b.val + o.val, by omega⟩ n) := by
  unfold scalesBack
  pointwise
  simp only [Nat.mul_comm b.val 352]

theorem out_agrees (c : Dev nD) : Cert.ReferenceIdeal.Value.G4 (argX m c) (argXs m c) (argDy m c) (argMg m c) = G4 m c := by
  funext y
  obtain ⟨i, o, rfl⟩ : ∃ (i : Fin 320) (o : Fin 352), y = ix2 i o := ⟨y 0, y 1, by funext d; match d with | ⟨0, _⟩ => rfl | ⟨1, _⟩ => rfl⟩
  rw [G4_apply]
  exact Cert.ReferenceIdeal.Wgrad.G4_apply _ _ _ _ i o

theorem codes_agree (c : Dev nD) : Cert.ReferenceIdeal.Value.G5 (argX m c) (argXs m c) (argDy m c) (argMg m c) = codesBack (G5 m c) := by
  funext y
  obtain ⟨b, T, o, rfl⟩ : ∃ (b : Fin 2) (T : Fin 524288) (o : Fin 352), y = ix3 b T o :=
    ⟨y 0, y 1, y 2, by funext d; match d with | ⟨0, _⟩ => rfl | ⟨1, _⟩ => rfl | ⟨2, _⟩ => rfl⟩
  rw [codesBack_apply, G5_apply]
  exact Cert.ReferenceIdeal.Wgrad.G5_apply _ _ _ _ b T o

theorem scales_agree (c : Dev nD) : Cert.ReferenceIdeal.Value.G6 (argX m c) (argXs m c) (argDy m c) (argMg m c) = scalesBack (G6 m c) := by
  funext y
  obtain ⟨b, n, o, rfl⟩ : ∃ (b : Fin 2) (n : Fin 4096) (o : Fin 352), y = ix3 b n o :=
    ⟨y 0, y 1, y 2, by funext d; match d with | ⟨0, _⟩ => rfl | ⟨1, _⟩ => rfl | ⟨2, _⟩ => rfl⟩
  rw [scalesBack_apply, G6_apply]
  exact Cert.ReferenceIdeal.Wgrad.G6_apply _ _ _ _ b n o

end Cert.KernelIdeal.Wgrad
-- ==== Proof.lean ====
/- The certificate's claims, assembled. -/
module

public import proofs.«01_k».proof.Defs
public import proofs.«01_k».proof.Proof.BitFrame
public import proofs.«01_k».proof.Proof.Frame
public import proofs.«01_k».proof.Proof.Agree
public import Idealize.ShloMosaic.Lib.Bf16PairInverse

@[expose] public section

open Idealize.ShloMosaic in
/-- What each replaced operation of the kernel computes, rule by rule. -/
theorem Cert.Proof.preserves : Cert.preserves_Kernel_KernelIdeal := by
  unfold Cert.preserves_Kernel_KernelIdeal
  exact ⟨IdealRules.bf16_pair.bufferStatement _ _, IdealRules.bf16_pair.bufferStatement _ _, IdealRules.bf16_pair.statement _ _,
    IdealRules.bf16_pair.statement _ _, IdealRules.bf16_pair.statement _ _, IdealRules.bf16_pair.selectZeroStatement _,
    IdealRules.bf16_pair.statement _ _, IdealRules.bf16_pair.statement _ _⟩

open Idealize.ShloMosaic Idealize.SL.Sem in
/-- The kernel's three results are the reference's, over the extended reals. -/
theorem Cert.Proof.algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Wgrad.G4 m c, fun c => Cert.KernelIdeal.Wgrad.codesBack (Cert.KernelIdeal.Wgrad.G5 m c),
    fun c => Cert.KernelIdeal.Wgrad.scalesBack (Cert.KernelIdeal.Wgrad.G6 m c), ?_, ?_⟩
  · exact (θ_run _ _ _).mono (fun r h c => ⟨(h.1 c).1, (h.1 c).2.1, (h.1 c).2.2, h.2 c⟩)
      (θ_run_and (Cert.KernelIdeal.Wgrad.results m g) (Cert.KernelIdeal.Wgrad.unchanged m g))
  · refine (θ_run _ _ _).mono (fun r h c => ?_) (Cert.ReferenceIdeal.Value.run m' g')
    obtain ⟨h4, h5, h6, hk⟩ := h c
    obtain ⟨a0, a1, a2, a3⟩ := hargs c
    rw [a0, a1, a2, a3] at h4 h5 h6
    exact ⟨h4.trans (Cert.KernelIdeal.Wgrad.out_agrees m c), h5.trans (Cert.KernelIdeal.Wgrad.codes_agree m c),
      h6.trans (Cert.KernelIdeal.Wgrad.scales_agree m c), hk⟩

theorem Cert.Proof.claim : Cert.Claim :=
  ⟨Cert.Kernel.Gen.facts, Cert.KernelIdeal.Gen.facts, Cert.ReferenceIdeal.Gen.facts,
    fun m ρ _ => Cert.Kernel.Wgrad.frame m ρ, fun m ρ _ => Cert.KernelIdeal.Wgrad.frame m ρ,
    fun m ρ _ => Cert.ReferenceIdeal.Gen.frame m ρ, Cert.Proof.preserves, Cert.Proof.algebraic⟩
